-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v137) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S2x1024x1024 : Shape := ⟨3, ![2, 1024, 1024]⟩
abbrev S3x1024x2048 : Shape := ⟨3, ![3, 1024, 2048]⟩
abbrev S3x1024x16 : Shape := ⟨3, ![3, 1024, 16]⟩
abbrev S8x128 : Shape := ⟨2, ![8, 128]⟩
abbrev S3x8x128 : Shape := ⟨3, ![3, 8, 128]⟩
abbrev S2 : Shape := ⟨1, ![2]⟩
abbrev S3 : Shape := ⟨1, ![3]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1024x16x128 : Shape := ⟨3, ![1024, 16, 128]⟩
abbrev S1024x16 : Shape := ⟨2, ![1024, 16]⟩
abbrev S1024x16x1 : Shape := ⟨3, ![1024, 16, 1]⟩
abbrev S1x1024x16 : Shape := ⟨3, ![1, 1024, 16]⟩
abbrev S1x1024x2048 : Shape := ⟨3, ![1, 1024, 2048]⟩
abbrev S1x1x1 : Shape := ⟨3, ![1, 1, 1]⟩
abbrev S1x8x128 : Shape := ⟨3, ![1, 8, 128]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1024x2048, .f32⟩
  | .local _ .vmem, ⟨0, _⟩ => ⟨S1024x2048, .bf16⟩
  | .local _ .vmem, ⟨1, _⟩ => ⟨S1024x2048, .f32⟩
  | .local _ .vmem, ⟨2, _⟩ => ⟨S2x1024x1024, .f32⟩
  | .local _ .vmem, ⟨3, _⟩ => ⟨S3x1024x2048, .i8⟩
  | .local _ .vmem, ⟨4, _⟩ => ⟨S3x1024x16, .bf16⟩
  | .local _ .vmem, ⟨5, _⟩ => ⟨S3x1024x2048, .i8⟩
  | .local _ .vmem, ⟨6, _⟩ => ⟨S3x1024x16, .bf16⟩
  | .local _ .vmem, ⟨7, _⟩ => ⟨S8x128, .f32⟩
  | .local _ .vmem, ⟨8, _⟩ => ⟨S3x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32 : BitVec 32 := 1024#32
  let v9 : BitVec 32 := Scalar.muli v4 c1024_i32
  let c0_i32_7 : BitVec 32 := 0#32
  ![v9.toNat, 0]
def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v22 : BitVec 32 := Scalar.addi v2 c1_i32_14
  let c4_i32_15 : BitVec 32 := 4#32
  let v23 : BitVec 32 := Scalar.remsi v22 c4_i32_15
  let c1_i32_17 : BitVec 32 := 1#32
  let v24 : BitVec 32 := Scalar.muli v23 c1_i32_17
  let v25 : BitVec 32 := Scalar.addi c0_i32_18 v24
  v25.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_19 : BitVec 32 := 2#32
  let v26 : BitVec 32 := Scalar.addi v2 c2_i32_19
  let c4_i32_20 : BitVec 32 := 4#32
  let v27 : BitVec 32 := Scalar.remsi v26 c4_i32_20
  let c1_i32_22 : BitVec 32 := 1#32
  let v28 : BitVec 32 := Scalar.muli v27 c1_i32_22
  let v29 : BitVec 32 := Scalar.addi c0_i32_23 v28
  v29.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_24 : BitVec 32 := 3#32
  let v30 : BitVec 32 := Scalar.addi v2 c3_i32_24
  let c4_i32_25 : BitVec 32 := 4#32
  let v31 : BitVec 32 := Scalar.remsi v30 c4_i32_25
  let c1_i32_27 : BitVec 32 := 1#32
  let v32 : BitVec 32 := Scalar.muli v31 c1_i32_27
  let v33 : BitVec 32 := Scalar.addi c0_i32_28 v32
  v33.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_61 : BitVec 32 := 1#32
  let v78 : BitVec 32 := Scalar.muli v4 c1_i32_61
  let v79 : BitVec 32 := Scalar.addi c0_i32_62 v78
  v79.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_71 : BitVec 32 := 1#32
  let v88 : BitVec 32 := Scalar.muli v4 c1_i32_71
  let v89 : BitVec 32 := Scalar.addi c0_i32_72 v88
  v89.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_88 : BitVec 32 := 1024#32
  let v110 : BitVec 32 := Scalar.muli v2 c1024_i32_88
  let c0_i32_93 : BitVec 32 := 0#32
  ![v110.toNat, 0]
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_109 : BitVec 32 := 1#32
  let v142 : BitVec 32 := Scalar.muli v6 c1_i32_109
  let v143 : BitVec 32 := Scalar.addi c0_i32_110 v142
  v143.toNat
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_119 : BitVec 32 := 1#32
  let v152 : BitVec 32 := Scalar.muli v6 c1_i32_119
  let v153 : BitVec 32 := Scalar.addi c0_i32_120 v152
  v153.toNat
def k0_dev8 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_151 : BitVec 32 := 1#32
  let v200 : BitVec 32 := Scalar.muli v8 c1_i32_151
  let v201 : BitVec 32 := Scalar.addi c0_i32_152 v200
  v201.toNat
def k0_dev9 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_161 : BitVec 32 := 1#32
  let v210 : BitVec 32 := Scalar.muli v8 c1_i32_161
  let v211 : BitVec 32 := Scalar.addi c0_i32_162 v210
  v211.toNat
def k0_dev10 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_276 : BitVec 32 := 1#32
  let v337 : BitVec 32 := Scalar.addi v2 c1_i32_276
  let c4_i32_277 : BitVec 32 := 4#32
  let v338 : BitVec 32 := Scalar.remsi v337 c4_i32_277
  let c1_i32_281 : BitVec 32 := 1#32
  let v339 : BitVec 32 := Scalar.muli v338 c1_i32_281
  let v340 : BitVec 32 := Scalar.addi c0_i32_282 v339
  v340.toNat
def k0_dev11 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_285 : BitVec 32 := 2#32
  let v347 : BitVec 32 := Scalar.addi v2 c2_i32_285
  let c4_i32_286 : BitVec 32 := 4#32
  let v348 : BitVec 32 := Scalar.remsi v347 c4_i32_286
  let c1_i32_290 : BitVec 32 := 1#32
  let v349 : BitVec 32 := Scalar.muli v348 c1_i32_290
  let v350 : BitVec 32 := Scalar.addi c0_i32_291 v349
  v350.toNat
def k0_dev12 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_294 : BitVec 32 := 3#32
  let v357 : BitVec 32 := Scalar.addi v2 c3_i32_294
  let c4_i32_295 : BitVec 32 := 4#32
  let v358 : BitVec 32 := Scalar.remsi v357 c4_i32_295
  let c1_i32_299 : BitVec 32 := 1#32
  let v359 : BitVec 32 := Scalar.muli v358 c1_i32_299
  let v360 : BitVec 32 := Scalar.addi c0_i32_300 v359
  v360.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S4096x1024 : Shape := ⟨2, ![4096, 1024]⟩
abbrev S1024x2048 : Shape := ⟨2, ![1024, 2048]⟩
abbrev S4096x16x128 : Shape := ⟨3, ![4096, 16, 128]⟩
abbrev S4096x16 : Shape := ⟨2, ![4096, 16]⟩
abbrev S4096x16x1 : Shape := ⟨3, ![4096, 16, 1]⟩

abbrev nBuf : Space → Nat
  | .hbm => 198
  | .vmem => 0
  | .smem => 0
  | _ => 0

abbrev hbmTy0_0 (i : Nat) : BufTy := match i % 128 with
  | 0 => ⟨S4096x4096, .f32⟩
  | 1 => ⟨S4096x2048, .bf16⟩
  | 2 => ⟨S4096x2048, .i32⟩
  | 3 => ⟨S_, .f32⟩
  | 4 => ⟨S4096x2048, .f32⟩
  | 5 => ⟨S4096x1024, .f32⟩
  | 6 => ⟨S1024x2048, .bf16⟩
  | 7 => ⟨S1024x2048, .f32⟩
  | 8 => ⟨S4096x2048, .f32⟩
  | 9 => ⟨S_, .i32⟩
  | 10 => ⟨S4096x2048, .i32⟩
  | 11 => ⟨S4096x2048, .i1⟩
  | 12 => ⟨S_, .i32⟩
  | 13 => ⟨S4096x2048, .i32⟩
  | 14 => ⟨S4096x2048, .i1⟩
  | 15 => ⟨S4096x2048, .i1⟩
  | 16 => ⟨S4096x16x128, .f32⟩
  | 17 => ⟨S4096x16x128, .f32⟩
  | 18 => ⟨S_, .f32⟩
  | 19 => ⟨S4096x16, .f32⟩
  | 20 => ⟨S4096x16x1, .f32⟩
  | 21 => ⟨S_, .f32⟩
  | 22 => ⟨S4096x16x1, .f32⟩
  | 23 => ⟨S4096x16x1, .f32⟩
  | 24 => ⟨S_, .f32⟩
  | 25 => ⟨S4096x16x1, .f32⟩
  | 26 => ⟨S4096x16x1, .f32⟩
  | 27 => ⟨S4096x16x1, .bf16⟩
  | 28 => ⟨S4096x16x1, .f32⟩
  | 29 => ⟨S4096x16x128, .f32⟩
  | 30 => ⟨S4096x16x128, .f32⟩
  | 31 => ⟨S4096x16x128, .f32⟩
  | 32 => ⟨S_, .f32⟩
  | 33 => ⟨S_, .f32⟩
  | 34 => ⟨S_, .f32⟩
  | 35 => ⟨S4096x16x128, .f32⟩
  | 36 => ⟨S4096x16x128, .f32⟩
  | 37 => ⟨S_, .f32⟩
  | 38 => ⟨S4096x16x128, .f32⟩
  | 39 => ⟨S4096x16x128, .f32⟩
  | 40 => ⟨S4096x16x128, .i32⟩
  | 41 => ⟨S4096x16x128, .i8⟩
  | 42 => ⟨S4096x16x128, .i32⟩
  | 43 => ⟨S4096x16x128, .f32⟩
  | 44 => ⟨S4096x16x128, .f32⟩
  | 45 => ⟨S4096x16x128, .f32⟩
  | 46 => ⟨S4096x2048, .f32⟩
  | 47 => ⟨S4096x2048, .f32⟩
  | 48 => ⟨S4096x2048, .f32⟩
  | 49 => ⟨S4096x1024, .f32⟩
  | 50 => ⟨S1024x2048, .bf16⟩
  | 51 => ⟨S1024x2048, .f32⟩
  | 52 => ⟨S4096x2048, .f32⟩
  | 53 => ⟨S_, .i32⟩
  | 54 => ⟨S4096x2048, .i32⟩
  | 55 => ⟨S4096x2048, .i1⟩
  | 56 => ⟨S_, .i32⟩
  | 57 => ⟨S4096x2048, .i32⟩
  | 58 => ⟨S4096x2048, .i1⟩
  | 59 => ⟨S4096x2048, .i1⟩
  | 60 => ⟨S4096x16x128, .f32⟩
  | 61 => ⟨S4096x16x128, .f32⟩
  | 62 => ⟨S_, .f32⟩
  | 63 => ⟨S4096x16, .f32⟩
  | 64 => ⟨S4096x16x1, .f32⟩
  | 65 => ⟨S_, .f32⟩
  | 66 => ⟨S4096x16x1, .f32⟩
  | 67 => ⟨S4096x16x1, .f32⟩
  | 68 => ⟨S_, .f32⟩
  | 69 => ⟨S4096x16x1, .f32⟩
  | 70 => ⟨S4096x16x1, .f32⟩
  | 71 => ⟨S4096x16x1, .bf16⟩
  | 72 => ⟨S4096x16x1, .f32⟩
  | 73 => ⟨S4096x16x128, .f32⟩
  | 74 => ⟨S4096x16x128, .f32⟩
  | 75 => ⟨S4096x16x128, .f32⟩
  | 76 => ⟨S_, .f32⟩
  | 77 => ⟨S_, .f32⟩
  | 78 => ⟨S_, .f32⟩
  | 79 => ⟨S4096x16x128, .f32⟩
  | 80 => ⟨S4096x16x128, .f32⟩
  | 81 => ⟨S_, .f32⟩
  | 82 => ⟨S4096x16x128, .f32⟩
  | 83 => ⟨S4096x16x128, .f32⟩
  | 84 => ⟨S4096x16x128, .i32⟩
  | 85 => ⟨S4096x16x128, .i8⟩
  | 86 => ⟨S4096x16x128, .i32⟩
  | 87 => ⟨S4096x16x128, .f32⟩
  | 88 => ⟨S4096x16x128, .f32⟩
  | 89 => ⟨S4096x16x128, .f32⟩
  | 90 => ⟨S4096x2048, .f32⟩
  | 91 => ⟨S4096x2048, .f32⟩
  | 92 => ⟨S4096x2048, .f32⟩
  | 93 => ⟨S4096x1024, .f32⟩
  | 94 => ⟨S1024x2048, .bf16⟩
  | 95 => ⟨S1024x2048, .f32⟩
  | 96 => ⟨S4096x2048, .f32⟩
  | 97 => ⟨S_, .i32⟩
  | 98 => ⟨S4096x2048, .i32⟩
  | 99 => ⟨S4096x2048, .i1⟩
  | 100 => ⟨S_, .i32⟩
  | 101 => ⟨S4096x2048, .i32⟩
  | 102 => ⟨S4096x2048, .i1⟩
  | 103 => ⟨S4096x2048, .i1⟩
  | 104 => ⟨S4096x16x128, .f32⟩
  | 105 => ⟨S4096x16x128, .f32⟩
  | 106 => ⟨S_, .f32⟩
  | 107 => ⟨S4096x16, .f32⟩
  | 108 => ⟨S4096x16x1, .f32⟩
  | 109 => ⟨S_, .f32⟩
  | 110 => ⟨S4096x16x1, .f32⟩
  | 111 => ⟨S4096x16x1, .f32⟩
  | 112 => ⟨S_, .f32⟩
  | 113 => ⟨S4096x16x1, .f32⟩
  | 114 => ⟨S4096x16x1, .f32⟩
  | 115 => ⟨S4096x16x1, .bf16⟩
  | 116 => ⟨S4096x16x1, .f32⟩
  | 117 => ⟨S4096x16x128, .f32⟩
  | 118 => ⟨S4096x16x128, .f32⟩
  | 119 => ⟨S4096x16x128, .f32⟩
  | 120 => ⟨S_, .f32⟩
  | 121 => ⟨S_, .f32⟩
  | 122 => ⟨S_, .f32⟩
  | 123 => ⟨S4096x16x128, .f32⟩
  | 124 => ⟨S4096x16x128, .f32⟩
  | 125 => ⟨S_, .f32⟩
  | 126 => ⟨S4096x16x128, .f32⟩
  | 127 => ⟨S4096x16x128, .f32⟩
  | _ => ⟨S4096x4096, .f32⟩

abbrev hbmTy0_1 (i : Nat) : BufTy := match i % 128 with
  | 0 => ⟨S4096x16x128, .i32⟩
  | 1 => ⟨S4096x16x128, .i8⟩
  | 2 => ⟨S4096x16x128, .i32⟩
  | 3 => ⟨S4096x16x128, .f32⟩
  | 4 => ⟨S4096x16x128, .f32⟩
  | 5 => ⟨S4096x16x128, .f32⟩
  | 6 => ⟨S4096x2048, .f32⟩
  | 7 => ⟨S4096x2048, .f32⟩
  | 8 => ⟨S4096x2048, .f32⟩
  | 9 => ⟨S4096x1024, .f32⟩
  | 10 => ⟨S1024x2048, .bf16⟩
  | 11 => ⟨S1024x2048, .f32⟩
  | 12 => ⟨S4096x2048, .f32⟩
  | 13 => ⟨S_, .i32⟩
  | 14 => ⟨S4096x2048, .i32⟩
  | 15 => ⟨S4096x2048, .i1⟩
  | 16 => ⟨S_, .i32⟩
  | 17 => ⟨S4096x2048, .i32⟩
  | 18 => ⟨S4096x2048, .i1⟩
  | 19 => ⟨S4096x2048, .i1⟩
  | 20 => ⟨S4096x16x128, .f32⟩
  | 21 => ⟨S4096x16x128, .f32⟩
  | 22 => ⟨S_, .f32⟩
  | 23 => ⟨S4096x16, .f32⟩
  | 24 => ⟨S4096x16x1, .f32⟩
  | 25 => ⟨S_, .f32⟩
  | 26 => ⟨S4096x16x1, .f32⟩
  | 27 => ⟨S4096x16x1, .f32⟩
  | 28 => ⟨S_, .f32⟩
  | 29 => ⟨S4096x16x1, .f32⟩
  | 30 => ⟨S4096x16x1, .f32⟩
  | 31 => ⟨S4096x16x1, .bf16⟩
  | 32 => ⟨S4096x16x1, .f32⟩
  | 33 => ⟨S4096x16x128, .f32⟩
  | 34 => ⟨S4096x16x128, .f32⟩
  | 35 => ⟨S4096x16x128, .f32⟩
  | 36 => ⟨S_, .f32⟩
  | 37 => ⟨S_, .f32⟩
  | 38 => ⟨S_, .f32⟩
  | 39 => ⟨S4096x16x128, .f32⟩
  | 40 => ⟨S4096x16x128, .f32⟩
  | 41 => ⟨S_, .f32⟩
  | 42 => ⟨S4096x16x128, .f32⟩
  | 43 => ⟨S4096x16x128, .f32⟩
  | 44 => ⟨S4096x16x128, .i32⟩
  | 45 => ⟨S4096x16x128, .i8⟩
  | 46 => ⟨S4096x16x128, .i32⟩
  | 47 => ⟨S4096x16x128, .f32⟩
  | 48 => ⟨S4096x16x128, .f32⟩
  | 49 => ⟨S4096x16x128, .f32⟩
  | 50 => ⟨S4096x2048, .f32⟩
  | 51 => ⟨S4096x2048, .f32⟩
  | 52 => ⟨S4096x2048, .f32⟩
  | 53 => ⟨S4096x2048, .f32⟩
  | 54 => ⟨S_, .f32⟩
  | 55 => ⟨S_, .f32⟩
  | 56 => ⟨S_, .f32⟩
  | 57 => ⟨S_, .f32⟩
  | 58 => ⟨S4096x2048, .f32⟩
  | 59 => ⟨S4096x2048, .f32⟩
  | 60 => ⟨S_, .f32⟩
  | 61 => ⟨S_, .f32⟩
  | 62 => ⟨S_, .f32⟩
  | 63 => ⟨S4096x2048, .f32⟩
  | 64 => ⟨S4096x2048, .f32⟩
  | 65 => ⟨S_, .f32⟩
  | 66 => ⟨S4096x2048, .f32⟩
  | 67 => ⟨S4096x2048, .f32⟩
  | 68 => ⟨S4096x2048, .f32⟩
  | 69 => ⟨S4096x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_cst_12 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_18 : Ref sig .tc := ⟨.hbm, 120, rfl⟩
abbrev main_cst_19 : Ref sig .tc := ⟨.hbm, 121, rfl⟩
abbrev main_call7_v0 : Ref sig .tc := ⟨.hbm, 122, rfl⟩
abbrev main_call7_v1 : Ref sig .tc := ⟨.hbm, 123, rfl⟩
abbrev main_call7_v2 : Ref sig .tc := ⟨.hbm, 124, rfl⟩
abbrev main_call7_v3 : Ref sig .tc := ⟨.hbm, 125, rfl⟩
abbrev main_call7_v4 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_20 : Ref sig .tc := ⟨.hbm, 141, rfl⟩
abbrev main_v102 : Ref sig .tc := ⟨.hbm, 142, rfl⟩
abbrev main_v103 : Ref sig .tc := ⟨.hbm, 143, rfl⟩
abbrev main_c_21 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_22 : Ref sig .tc := ⟨.hbm, 150, rfl⟩
abbrev main_v109 : Ref sig .tc := ⟨.hbm, 151, rfl⟩
abbrev main_v110 : Ref sig .tc := ⟨.hbm, 152, rfl⟩
abbrev main_cst_23 : Ref sig .tc := ⟨.hbm, 153, rfl⟩
abbrev main_v111 : Ref sig .tc := ⟨.hbm, 154, rfl⟩
abbrev main_v112 : Ref sig .tc := ⟨.hbm, 155, rfl⟩
abbrev main_cst_24 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_25 : Ref sig .tc := ⟨.hbm, 164, rfl⟩
abbrev main_cst_26 : Ref sig .tc := ⟨.hbm, 165, rfl⟩
abbrev main_call10_v0 : Ref sig .tc := ⟨.hbm, 166, rfl⟩
abbrev main_call10_v1 : Ref sig .tc := ⟨.hbm, 167, rfl⟩
abbrev main_call10_v2 : Ref sig .tc := ⟨.hbm, 168, rfl⟩
abbrev main_call10_v3 : Ref sig .tc := ⟨.hbm, 169, rfl⟩
abbrev main_call10_v4 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_27 : Ref sig .tc := ⟨.hbm, 182, rfl⟩
abbrev main_v131 : Ref sig .tc := ⟨.hbm, 183, rfl⟩
abbrev main_cst_28 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_29 : Ref sig .tc := ⟨.hbm, 188, rfl⟩
abbrev main_cst_30 : Ref sig .tc := ⟨.hbm, 189, rfl⟩
abbrev main_call12_v0 : Ref sig .tc := ⟨.hbm, 190, rfl⟩
abbrev main_call12_v1 : Ref sig .tc := ⟨.hbm, 191, rfl⟩
abbrev main_call12_v2 : Ref sig .tc := ⟨.hbm, 192, rfl⟩
abbrev main_call12_v3 : Ref sig .tc := ⟨.hbm, 193, rfl⟩
abbrev main_call12_v4 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩

abbrev nD : Nat := 1
abbrev τ : Topo := Topo.v7x

variable {F : FTy → Type} [FloatOps F]
-- ==== Proof.Ideal.Protocol.lean ====
/-
# The cross-device protocol of the distributed matmul

Four devices. Device `c` multiplies the rows of `x` that belong to `c + k + 1` (slot `k` of three) with its own block
of the weights, quantises that partial sum to int8 codes with one bf16 scale per row and 128 columns, and copies codes
and scales into slot `k` of the receive buffers of `c + k + 1`. It adds the three partial sums it receives to its own,
sends the largest magnitude of the result to the three others, and scales its block by the largest of the four.

Semaphores, per device:

* the barrier: each device signals the three others once and waits for three units. The unit that device `d + k + 1`
  gives `d` hands over slot `k` of that device's three receive buffers, into which `d` will copy;
* `xc s`: the local copies of row blocks of `x` into slot `s` of the double buffer, two of them one after the other;
* `qS k`, `qR k`: the copy of codes out of slot `k`, and its landing in slot `k` of the receiver; `sS k`, `sR k` the
  same for the scales; `aS k`, `aR k` the same for the largest magnitude.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and this protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `n` places after `c`. -/
def ahead (n : ℕ) (c : Dev nD) : Dev nD := ⟨(c.val + n) % 4, Nat.mod_lt _ (by decide)⟩

/-- The device that slot `k` of `c` is sent to, -/
abbrev peer (k : Fin 3) (c : Dev nD) : Dev nD := ahead (k.val + 1) c
/-- and the device slot `k` of `c` comes from. -/
abbrev src (k : Fin 3) (c : Dev nD) : Dev nD := ahead (3 - k.val) c

theorem src_peer (k : Fin 3) (c : Dev nD) : src k (peer k c) = c := by revert k c; decide
theorem peer_src (k : Fin 3) (c : Dev nD) : peer k (src k c) = c := by revert k c; decide
theorem peer_rev_peer (k : Fin 3) (c : Dev nD) : peer k.rev (peer k c) = c := by revert k c; decide
theorem peer_peer_rev (k : Fin 3) (c : Dev nD) : peer k (peer k.rev c) = c := by revert k c; decide

/-! ## Slots of a stack of matrices, and what a memref holds -/

section Slots

theorem inb_slot {n a b : ℕ} (k : Fin n) : ∀ i, (![k.val, 0, 0] : Fin 3 → ℕ) i + (⟨3, ![1, a, b]⟩ : Shape).size i ≤ (⟨3, ![n, a, b]⟩ : Shape).size i := by
  intro i
  match i with
  | 0 => exact k.isLt
  | 1 => exact (Nat.zero_add a).le
  | 2 => exact (Nat.zero_add b).le

/-- The rectangle of slot `k`. -/
abbrev slotRect {n : ℕ} (a b : ℕ) (k : Fin n) : Rect (⟨3, ![n, a, b]⟩ : Shape) :=
  Rect.unit (s := (⟨3, ![n, a, b]⟩ : Shape)) ![k.val, 0, 0] (⟨3, ![1, a, b]⟩ : Shape).size (inb_slot k)

/-- Slot `k` of a stack. -/
abbrev slot {sp : Space} {e : EltTy} {n a b : ℕ} (M : Memref sig .tc sp ⟨3, ![n, a, b]⟩ e) (k : Fin n) : Memref sig .tc sp ⟨3, ![1, a, b]⟩ e :=
  M.slice (slotRect a b k) (fun _ => rfl)

/-- The elements a memref names on device `d`, at share `q`, their buffer's contents `f`. -/
abbrev pts {sp : Space} {s : Shape} {e : EltTy} (M : Memref sig .tc sp s e) (d : Dev nD) (q : PosShare TreeShare)
    (f : Buf (Elt F) (M.view.loc (d : Thread nD τ))) : sProp 𝕄 :=
  M.view.loc (d : Thread nD τ) ↦[M.view.set]{q} f

/-- The elements a memref names on device `d`, at share `q`, reading `X`. -/
def holds {sp : Space} {s : Shape} {e : EltTy} (M : Memref sig .tc sp s e) (d : Dev nD) (q : PosShare TreeShare) (X : s.Idx → Elt F e) : sProp 𝕄 :=
  iprop(∃ f, ⌜M.view.read (Elt F) f = X⌝ ∗ pts M d q f)

/-- The same, reading anything. -/
def free {sp : Space} {s : Shape} {e : EltTy} (M : Memref sig .tc sp s e) (d : Dev nD) : sProp 𝕄 :=
  iprop(∃ f, pts (F := F) M d fullShare f)

instance holds_storable {sp : Space} {s : Shape} {e : EltTy} (M : Memref sig .tc sp s e) (d : Dev nD) (q) (X : s.Idx → Elt F e) :
    BI.Storable (upEmb : UEmb _ 𝕄) (holds M d q X) := by unfold holds; infer_instance
instance free_storable {sp : Space} {s : Shape} {e : EltTy} (M : Memref sig .tc sp s e) (d : Dev nD) :
    BI.Storable (upEmb : UEmb _ 𝕄) (free (F := F) M d) := by unfold free; infer_instance

omit [FloatOps F] in
theorem holds_free {sp : Space} {s : Shape} {e : EltTy} (M : Memref sig .tc sp s e) (d : Dev nD) (X : s.Idx → Elt F e) :
    holds M d fullShare X ⊢ (free M d : sProp 𝕄) := by
  unfold holds free; iintro ⟨%f, -, H⟩; iexists f; iexact H

end Slots

/-! ## The memrefs -/

abbrev xM : Memref sig .tc .hbm S4096x1024 .f32 := Memref.whole main_arg0
abbrev wM : Memref sig .tc .vmem S1024x2048 .bf16 := Memref.whole cc0_stg0_0
abbrev oM : Memref sig .tc .vmem S1024x2048 .f32 := Memref.whole cc0_stg1_0
abbrev xbM : Memref sig .tc .vmem S2x1024x1024 .f32 := Memref.whole cc0_scratch0
abbrev sqM : Memref sig .tc .vmem S3x1024x2048 .i8 := Memref.whole cc0_scratch1
abbrev ssM : Memref sig .tc .vmem S3x1024x16 .bf16 := Memref.whole cc0_scratch2
abbrev rqM : Memref sig .tc .vmem S3x1024x2048 .i8 := Memref.whole cc0_scratch3
abbrev rsM : Memref sig .tc .vmem S3x1024x16 .bf16 := Memref.whole cc0_scratch4
abbrev saM : Memref sig .tc .vmem S8x128 .f32 := Memref.whole cc0_scratch5
abbrev raM : Memref sig .tc .vmem S3x8x128 .f32 := Memref.whole cc0_scratch6

theorem inb_rows (d : Dev nD) : ∀ i, (![1024 * d.val, 0] : Fin 2 → ℕ) i + S1024x1024.size i ≤ S4096x1024.size i := by revert d; decide

/-- The rows of `x` that belong to device `d`. -/
abbrev xRows (d : Dev nD) : Memref sig .tc .hbm S1024x1024 .f32 :=
  xM.slice (Rect.unit (s := S4096x1024) ![1024 * d.val, 0] S1024x1024.size (inb_rows d)) (fun _ => rfl)

abbrev xbS (s : Fin 2) : Memref sig .tc .vmem S1024x1024 .f32 := (slot xbM s).squeeze S1024x1024 squeezes_S1x1024x1024_S1024x1024
abbrev sqS (k : Fin 3) : Memref sig .tc .vmem S1024x2048 .i8 := (slot sqM k).squeeze S1024x2048 squeezes_S1x1024x2048_S1024x2048
abbrev ssS (k : Fin 3) : Memref sig .tc .vmem S1024x16 .bf16 := (slot ssM k).squeeze S1024x16 squeezes_S1x1024x16_S1024x16
abbrev rqS (k : Fin 3) : Memref sig .tc .vmem S1024x2048 .i8 := (slot rqM k).squeeze S1024x2048 squeezes_S1x1024x2048_S1024x2048
abbrev rsS (k : Fin 3) : Memref sig .tc .vmem S1024x16 .bf16 := (slot rsM k).squeeze S1024x16 squeezes_S1x1024x16_S1024x16
abbrev raS (k : Fin 3) : Memref sig .tc .vmem S8x128 .f32 := (slot raM k).squeeze S8x128 squeezes_S1x8x128_S8x128

/-! ## The semaphores, by what they are for -/

inductive Role
  | bar | xc (s : Fin 2) | qS (k : Fin 3) | qR (k : Fin 3) | sS (k : Fin 3) | sR (k : Fin 3) | aS (k : Fin 3) | aR (k : Fin 3)
deriving DecidableEq

/-- All of them. -/
def roles : List Role :=
  [.bar, .xc 0, .xc 1, .qS 0, .qS 1, .qS 2, .qR 0, .qR 1, .qR 2, .sS 0, .sS 1, .sS 2, .sR 0, .sR 1, .sR 2,
    .aS 0, .aS 1, .aS 2, .aR 0, .aR 1, .aR 2]

theorem mem_roles (ρ : Role) : ρ ∈ roles := by
  cases ρ with
  | bar => decide
  | xc s => revert s; decide
  | qS k => revert k; decide
  | qR k => revert k; decide
  | sS k => revert k; decide
  | sR k => revert k; decide
  | aS k => revert k; decide
  | aR k => revert k; decide

instance : Fintype Role := Fintype.ofList roles mem_roles

theorem roles_univ : (Finset.univ : Finset Role) = roles.toFinset := by ext ρ; simp [mem_roles]
theorem roles_nodup : roles.Nodup := by decide

theorem inb_sem2 (k : Fin 2) : ∀ i, (![k.val] : Fin 1 → ℕ) i + S1.size i ≤ S2.size i := by revert k; decide
theorem inb_sem3 (k : Fin 3) : ∀ i, (![k.val] : Fin 1 → ℕ) i + S1.size i ≤ S3.size i := by revert k; decide
abbrev sem2 (A : DmaSems sig S2) (k : Fin 2) : DmaSems sig S_ := (A.slice (Rect.unit (s := S2) ![k.val] S1.size (inb_sem2 k))).squeeze S_ squeezes_S1_S_
abbrev sem3 (A : DmaSems sig S3) (k : Fin 3) : DmaSems sig S_ := (A.slice (Rect.unit (s := S3) ![k.val] S1.size (inb_sem3 k))).squeeze S_ squeezes_S1_S_

/-- The runtime's barrier semaphore. -/
abbrev barS : Sem sig := (SemArray.scalar (sig.barrier 0 rfl) : Sems sig S_).sem

@[reducible] def roleSem : Role → SemLoc sig
  | .bar => .reg barS
  | .xc s => .dma (sem2 cc0_scratch7 s).sem
  | .qS k => .dma (sem3 cc0_scratch8 k).sem
  | .qR k => .dma (sem3 cc0_scratch9 k).sem
  | .sS k => .dma (sem3 cc0_scratch10 k).sem
  | .sR k => .dma (sem3 cc0_scratch11 k).sem
  | .aS k => .dma (sem3 cc0_scratch12 k).sem
  | .aR k => .dma (sem3 cc0_scratch13 k).sem

theorem roleSem_injective : Function.Injective roleSem := by unfold Function.Injective; decide +kernel

/-- Device `d`'s semaphore for `ρ`. -/
abbrev cell (d : Dev nD) (ρ : Role) : GSem nD τ sig := ((d : Thread nD τ), roleSem ρ)

/-- What a semaphore is for, if anything here. -/
def role? (s : SemLoc sig) : Option Role := open Classical in if h : ∃ ρ, roleSem ρ = s then some h.choose else none

theorem role?_roleSem (ρ : Role) : role? (roleSem ρ) = some ρ := by
  unfold role?
  have h : ∃ ρ', roleSem ρ' = roleSem ρ := ⟨ρ, rfl⟩
  rw [dif_pos h]
  exact congrArg some (roleSem_injective h.choose_spec)

/-- The units one duty of a semaphore contributes. -/
def amt : Role → ℕ
  | .bar => 1
  | .xc _ => RefSig.tileCredit S1024x1024 .f32
  | .qS _ | .qR _ => RefSig.tileCredit S1024x2048 .i8
  | .sS _ | .sR _ => RefSig.tileCredit S1024x16 .bf16
  | .aS _ | .aR _ => RefSig.tileCredit S8x128 .f32

theorem numel_x : 0 < S1024x1024.numel := by decide
theorem numel_q : 0 < S1024x2048.numel := by decide
theorem numel_s : 0 < S1024x16.numel := by decide
theorem numel_a : 0 < S8x128.numel := by decide

theorem amt_pos (ρ : Role) : 0 < amt ρ := by
  unfold amt
  cases ρ with
  | bar => exact Nat.one_pos
  | xc s => exact RefSig.tileCredit_pos _ _ numel_x
  | qS k => exact RefSig.tileCredit_pos _ _ numel_q
  | qR k => exact RefSig.tileCredit_pos _ _ numel_q
  | sS k => exact RefSig.tileCredit_pos _ _ numel_s
  | sR k => exact RefSig.tileCredit_pos _ _ numel_s
  | aS k => exact RefSig.tileCredit_pos _ _ numel_a
  | aR k => exact RefSig.tileCredit_pos _ _ numel_a

/-! ## Contents -/

/-- Device `c`'s weights as staged. -/
def wv (c : Dev nD) : Vec F S1024x2048 .bf16 := (win0_0.blk (0 : Fin 1)).view.read (Elt F) (m ((c : Thread nD τ).loc main_arg1))

/-- Device `c`'s rows of `x` for device `e`, as the matrix unit is given them. -/
def xv (c e : Dev nD) : Vec F S1x1024x1024 .f32 := fun j =>
  (xRows e).view.read (Elt F) (m ((c : Thread nD τ).loc main_arg0)) ((Shape.reshapeEquiv (squeezes_S1x1024x1024_S1024x1024).numel_eq).symm j)

/-- The codes of a partial sum, -/
def codes (x : Vec F S1x1024x1024 .f32) (w : Vec F S1024x2048 .bf16) : Vec F S1x1024x2048 .i8 := k0_pay5 (k0_pay1 x w) (k0_pay2 x w)
/-- and its scales. -/
def scales (x : Vec F S1x1024x1024 .f32) (w : Vec F S1024x2048 .bf16) : Vec F S1x1024x16 .bf16 := k0_pay4 (k0_pay2 x w)

/-- The codes device `c` sends device `e`, -/
def qv (c e : Dev nD) : Vec F S1x1024x2048 .i8 := codes (xv m c e) (wv m c)
/-- and the scales. -/
def sv (c e : Dev nD) : Vec F S1x1024x16 .bf16 := scales (xv m c e) (wv m c)

/-- Device `c`'s own partial sum, -/
def own (c : Dev nD) : Vec F S1024x2048 .f32 := k0_pay15 (xv m c c) (wv m c)
/-- with what slots 0, 1, 2 brought added, -/
def out1 (c : Dev nD) : Vec F S1024x2048 .f32 := k0_pay16 (qv m (src 0 c) c) (sv m (src 0 c) c) (own m c)
def out2 (c : Dev nD) : Vec F S1024x2048 .f32 := k0_pay17 (qv m (src 1 c) c) (sv m (src 1 c) c) (out1 m c)
def out3 (c : Dev nD) : Vec F S1024x2048 .f32 := k0_pay18 (qv m (src 2 c) c) (sv m (src 2 c) c) (out2 m c)
/-- the largest magnitude of it, in every lane, -/
def amax (c : Dev nD) : Vec F S8x128 .f32 := k0_pay20 (out3 m c)
/-- as one word of a receive slot, -/
def amax1 (c : Dev nD) : Vec F S1x1x1 .f32 := fun _ => amax m c (Shape.Idx.first (by decide))
/-- and the block as written back. -/
def outF (c : Dev nD) : Vec F S1024x2048 .f32 :=
  k0_pay22 (k0_pay21 (k0_pay19 (out3 m c)) (amax1 m (src 0 c)) (amax1 m (src 1 c))) (amax1 m (src 2 c)) (out3 m c)

/-! ## The schedule -/

/-- The half of `x` that the copies into slot `s` read from. -/
def halfX : Fin 2 → PosShare TreeShare
  | 0 => fullShare.left
  | 1 => fullShare.right

/-- The third of the largest magnitude's buffer that the copy for slot `k` reads from. -/
def thirdA : Fin 3 → PosShare TreeShare
  | 0 => fullShare.left
  | 1 => fullShare.right.left
  | 2 => fullShare.right.right

/-- Whose rows the `r`-th copy into slot `s` brings. -/
abbrev chunk (s : Fin 2) (r : ℕ) (c : Dev nD) : Dev nD := ahead (s.val + 2 * r + 1) c

/-- What a duty hands the waiting device `c`. -/
def pay (c : Dev nD) : Role → ℕ → Fin 3 → sProp 𝕄
  | .bar, _, k => iprop(free (slot rqM k) (peer k c) ∗ free (slot rsM k) (peer k c) ∗ free (slot raM k) (peer k c))
  | .xc s, r, _ => iprop(holds (slot xbM s) c fullShare (xv m c (chunk s r c)) ∗ pts (xRows (chunk s r c)) c (halfX s) (m ((c : Thread nD τ).loc main_arg0)))
  | .qS k, _, _ => holds (slot sqM k) c fullShare (qv m c (peer k c))
  | .sS k, _, _ => holds (slot ssM k) c fullShare (sv m c (peer k c))
  | .aS k, _, _ => pts saM c (thirdA k) (amax m c)
  | .qR k, _, _ => holds (slot rqM k) c fullShare (qv m (src k c) c)
  | .sR k, _, _ => holds (slot rsM k) c fullShare (sv m (src k c) c)
  | .aR k, _, _ => holds (raS k) c fullShare (amax m (src k c))

instance pay_storable (c : Dev nD) (ρ : Role) (r : ℕ) (d : Fin 3) : BI.Storable (upEmb : UEmb _ 𝕄) (pay m c ρ r d) := by
  cases ρ <;> unfold pay <;> infer_instance

/-- How many rounds a semaphore has, -/
def rounds : Role → ℕ
  | .xc _ => 2
  | _ => 1
/-- and the duties of each. -/
def dutySet : Role → Finset (Fin 3)
  | .bar => Finset.univ
  | _ => {0}

def Rd : Rounds.Schedule (GSem nD τ sig) (Fin 3) 𝕄 where
  duties g r := match role? g.2 with
    | some ρ => if g.1.2 = .tc ∧ r < rounds ρ then dutySet ρ else ∅
    | none => ∅
  unitless _ := False
  amount g _ _ := match role? g.2 with
    | some ρ => amt ρ
    | none => 1
  payload g r d := match role? g.2 with
    | some ρ => pay m g.1.1 ρ r d
    | none => iprop(emp)
  amount_pos g _ _ _ := by
    cases role? g.2 with
    | none => exact Nat.one_pos
    | some ρ => exact amt_pos ρ

instance Rd_payload_storable (g : GSem nD τ sig) (r : ℕ) (d : Fin 3) : BI.Storable (upEmb : UEmb _ 𝕄) ((Rd (F := F) m).payload g r d) := by
  show BI.Storable upEmb (match role? g.2 with
    | some ρ => pay m g.1.1 ρ r d
    | none => iprop(emp))
  cases role? g.2 <;> infer_instance

section Sched
variable (c : Dev nD) (ρ' : Role)

theorem duties_cell {r : ℕ} (hr : r < rounds ρ') : (Rd (F := F) m).duties (cell c ρ') r = dutySet ρ' := by
  dsimp only [Rd]; rw [role?_roleSem]; exact if_pos ⟨rfl, hr⟩
theorem duties_done : ∀ r, rounds ρ' ≤ r → (Rd (F := F) m).duties (cell c ρ') r = ∅ := fun r hr => by
  dsimp only [Rd]; rw [role?_roleSem]; exact if_neg fun h => Nat.not_lt.2 hr h.2
theorem amount_cell (r : ℕ) (d : Fin 3) : (Rd (F := F) m).amount (cell c ρ') r d = amt ρ' := by
  dsimp only [Rd]; rw [role?_roleSem]
theorem payload_cell (r : ℕ) (d : Fin 3) : (Rd (F := F) m).payload (cell c ρ') r d = pay m c ρ' r d := by
  dsimp only [Rd]; rw [role?_roleSem]

theorem expect_cell {r : ℕ} (hr : r < rounds ρ') : (Rd (F := F) m).expect (cell c ρ') r = (dutySet ρ').card * amt ρ' := by
  unfold Schedule.expect Schedule.amountOf
  rw [duties_cell m c ρ' hr, Finset.sum_congr rfl fun d _ => amount_cell m c ρ' r d, Finset.sum_const, smul_eq_mul]
theorem expect_one {r : ℕ} (hr : r < rounds ρ') (h : dutySet ρ' = {0}) : (Rd (F := F) m).expect (cell c ρ') r = amt ρ' := by
  rw [expect_cell m c ρ' hr, h]; exact Nat.one_mul _

/-- What a wait for the whole of a round of one duty gives. -/
theorem rest_one {r : ℕ} (hr : r < rounds ρ') (h : dutySet ρ' = {0}) :
    bigSep ((Rd (F := F) m).duties (cell c ρ') r \ ∅) (fun d => (Rd (F := F) m).payload (cell c ρ') r d) = pay m c ρ' r 0 := by
  rw [Finset.sdiff_empty, duties_cell m c ρ' hr, h, bigSep_singleton, payload_cell]

/-- What the barrier's wait gives. -/
theorem rest_bar : bigSep ((Rd (F := F) m).duties (cell c .bar) 0 \ ∅) (fun d => (Rd (F := F) m).payload (cell c .bar) 0 d)
    = iprop(pay m c .bar 0 0 ∗ pay m c .bar 0 1 ∗ pay m c .bar 0 2) := by
  rw [Finset.sdiff_empty, duties_cell m c .bar (by decide), show dutySet .bar = Finset.univ from rfl,
    bigSep_univ_eq_bigSepL [0, 1, 2] (by decide) (by decide), bigSepL_cons_cons, bigSepL_cons_cons, bigSepL_singleton,
    payload_cell, payload_cell, payload_cell]
  rfl

end Sched

/-! ## What each device owes at launch; the levels -/

/-- A device's debts in the order it pays them: to which semaphore of which of the others. -/
def debts : List (Role × Fin 3) :=
  [(.bar, 0), (.bar, 1), (.bar, 2), (.qR 0, 0), (.sR 0, 0), (.qR 1, 1), (.sR 1, 1), (.qR 2, 2), (.sR 2, 2), (.aR 0, 0), (.aR 1, 1), (.aR 2, 2)]

/-- What a list of debts owes, the first last. -/
def owing (c : Dev nD) : List (Role × Fin 3) → CellTallies nD τ sig Unit
  | [] => 0
  | x :: l => owing c l + tallyAt (cell (peer x.2 c) x.1) () (amt x.1)

/-- What `c` still owes once it has paid `n` of its debts. -/
def owed (n : ℕ) (c : Dev nD) : CellTallies nD τ sig Unit := owing c (debts.drop n)

def L (g : GSem nD τ sig) : Finset Unit := if g.1.2 = .tc then {()} else ∅
/-- The level of what a semaphore is for: local copies and sends lowest, then the barrier, then codes and scales
    received, then magnitudes received. -/
def lvR : Role → ℕ
  | .bar => 1
  | .qR _ => 2
  | .sR _ => 2
  | .aR _ => 3
  | _ => 0
def lv (g : GSem nD τ sig) (_ : Unit) : ℕ := match role? g.2 with
  | some ρ => lvR ρ
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (ρ' : Role) (u : Unit) : lv (cell c ρ') u = lvR ρ' := by unfold lv; rw [role?_roleSem]

theorem owing_pos {c : Dev nD} {g : GSem nD τ sig} {u : Unit} : ∀ l : List (Role × Fin 3), 0 < owing c l g u → ∃ x ∈ l, g = cell (peer x.2 c) x.1
  | [], h => absurd h (Nat.lt_irrefl 0)
  | x :: l, h => by
    by_cases hx : g = cell (peer x.2 c) x.1
    · exact ⟨x, List.mem_cons_self, hx⟩
    · have h' : 0 < owing c l g u := by
        unfold owing at h
        rw [Pi.add_apply, Finsupp.add_apply, tallyAt_apply, if_neg (fun h' => hx h'.1)] at h
        exact h
      obtain ⟨y, hy, e⟩ := owing_pos l h'
      exact ⟨y, List.mem_cons_of_mem _ hy, e⟩

omit [FloatOps F] in
/-- A device that still owes the debts after the `n`-th may wait on a semaphore below every one of them. -/
theorem mayWait (c : Dev nD) (ρ' : Role) (n : ℕ) (h : ∀ x ∈ debts.drop n, lvR ρ' < lvR x.1) :
    (levAts L lv : sProp 𝕄) ⊢ MayWait (c : Thread nD τ) (roleSem ρ') () (owed n c) :=
  MayOwe.of_cut (L := L) (lev := lv) (lvR ρ') (fun p hp => by rw [Finset.mem_singleton.mp hp, L_tc]; exact Finset.mem_singleton_self _)
    (fun g u hg => by obtain ⟨x, -, rfl⟩ := owing_pos _ hg; rw [L_tc]; exact Finset.mem_singleton_self _)
    (fun p hp => by rw [Finset.mem_singleton.mp hp]; exact (lv_cell c ρ' ()).le)
    (fun g u hg => by obtain ⟨x, hx, rfl⟩ := owing_pos _ hg; rw [lv_cell]; exact h x hx)

omit [FloatOps F] in
/-- The staging semaphores are below everything owed. -/
theorem mayWait_stage (c : Dev nD) (q : DmaSem sig) (hq : ∀ ρ', roleSem ρ' ≠ .dma q) (O : CellTallies nD τ sig Unit) (hO : O = owed 0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨x, -, rfl⟩ := owing_pos _ hg; rw [L_tc]; exact Finset.mem_singleton_self _)
      (fun p hp => by
        rw [Finset.mem_singleton.mp hp]
        unfold lv role?
        rw [dif_neg (fun ⟨ρ', h⟩ => hq ρ' h)])
      (fun g u hg => by
        obtain ⟨x, hx, rfl⟩ := owing_pos _ hg
        rw [lv_cell]
        exact (show ∀ x ∈ debts.drop 0, 0 < lvR x.1 by decide) x hx)
  · rw [MayWait_zero]; iintro -; iempintro

end Cert.KernelIdeal.Dist
-- ==== Proof.Ideal.Steps.lean ====
/-
# The body's operations, one rule each

The load and store of a slot, the local copy of a block of rows, the three kinds of copy to another device, the signal,
the waits: each operation the body performs, at a symbolic device and slot, from what the device holds to what it holds
afterwards.
-/
module

public import proofs.«01_k».proof.Proof.Ideal.Protocol

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c`, run to the end with `Q` holding of its result. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## Loads and stores -/

section Access
variable {α : Type} {Q : α → sProp (MT nD τ sig Unit (Elt F) ℕ UU ℕ)} (c : Dev nD)

theorem wp_load_slot {e : EltTy} {n a b : ℕ} (M : Memref sig .tc .vmem ⟨3, ![n, a, b]⟩ e) (k : Fin n) {q : PosShare TreeShare}
    {X : (⟨3, ![1, a, b]⟩ : Shape).Idx → Elt F e} {hl : M.view.LoadsAt (slotRect a b k).toLoadRect}
    {kont : ((⟨3, ![1, a, b]⟩ : Shape).Idx → Elt F e) → Prog (TpuEff nD τ sig (Elt F) Λ₀ .tc) α} :
    holds (slot M k) c q X
      ⊢ iprop((holds (slot M k) c q X -∗ run c (kont X) Q)
          -∗ run c (.op (.load M (slotRect a b k).toLoadRect hl) kont) Q) := by
  unfold holds
  iintro ⟨%f, %hf, H⟩ Hk
  subst hf
  iapply (wp_load_rect 𝒱₀ (c : Thread nD τ) none Set.univ (m := M) (r := slotRect a b k)
    (S := (slot M k).view.set) (f := f) (Finset.Subset.refl _)) $$ H
  iintro H
  iapply Hk
  iexists f; isplitr; · (ipureintro; rfl)
  iexact H

theorem wp_load_free {e : EltTy} {n a b : ℕ} (M : Memref sig .tc .vmem ⟨3, ![n, a, b]⟩ e) (k : Fin n)
    {hl : M.view.LoadsAt (slotRect a b k).toLoadRect}
    {kont : ((⟨3, ![1, a, b]⟩ : Shape).Idx → Elt F e) → Prog (TpuEff nD τ sig (Elt F) Λ₀ .tc) α} :
    free (slot M k) c
      ⊢ iprop((∀ X, free (slot M k) c -∗ run c (kont X) Q)
          -∗ run c (.op (.load M (slotRect a b k).toLoadRect hl) kont) Q) := by
  unfold free
  iintro ⟨%f, H⟩ Hk
  iapply (wp_load_rect 𝒱₀ (c : Thread nD τ) none Set.univ (m := M) (r := slotRect a b k)
    (S := (slot M k).view.set) (f := f) (Finset.Subset.refl _)) $$ H
  iintro H
  iapply Hk
  iexists f
  iexact H

theorem wp_store_slot {e : EltTy} {n a b : ℕ} (M : Memref sig .tc .vmem ⟨3, ![n, a, b]⟩ e) (k : Fin n)
    (X : (⟨3, ![1, a, b]⟩ : Shape).Idx → Elt F e) {hx : (M.access (slotRect a b k)).Stores Finset.univ}
    {hm : (Finset.univ : Finset (slotRect a b k).shape.Idx) = Finset.univ ∨ ∀ a', (slotRect a b k).stride a' = 1}
    {kont : PUnit → Prog (TpuEff nD τ sig (Elt F) Λ₀ .tc) α} :
    free (slot M k) c
      ⊢ iprop((holds (slot M k) c fullShare X -∗ run c (kont ⟨⟩) Q)
          -∗ run c (.op (.store M (slotRect a b k) X Finset.univ hx hm) kont) Q) := by
  unfold free holds
  iintro ⟨%f, H⟩ Hk
  iapply (wp_store 𝒱₀ (c : Thread nD τ) none Set.univ (m := M) (r := slotRect a b k) (Mk := Finset.univ)
    (S := (slot M k).view.set) (f := f) (Finset.Subset.refl _)) $$ H
  iintro H
  iapply Hk
  iexists (M.access (slotRect a b k)).write (Elt F) f X Finset.univ; isplitr
  · ipureintro; exact View.read_write_univ _ _
  iexact H

theorem zero2 : (![0, 0] : Fin 2 → ℕ) = fun _ => 0 := by funext i; fin_cases i <;> rfl

theorem wp_load_w {q : PosShare TreeShare} {X : Vec F S1024x2048 .bf16} {hl : wM.view.LoadsAt (Rect.unit (s := S1024x2048) ![0, 0] S1024x2048.size inb_S1024x2048_S1024x2048_0_0).toLoadRect}
    {kont : Vec F S1024x2048 .bf16 → Prog (TpuEff nD τ sig (Elt F) Λ₀ .tc) α} :
    pts wM c q X
      ⊢ iprop((pts wM c q X -∗ run c (kont X) Q)
          -∗ run c (.op (.load wM (Rect.unit (s := S1024x2048) ![0, 0] S1024x2048.size inb_S1024x2048_S1024x2048_0_0).toLoadRect hl) kont) Q) := by
  iintro H Hk
  iapply (wp_load 𝒱₀ (c : Thread nD τ) none Set.univ (m := wM) (r := (Rect.unit (s := S1024x2048) ![0, 0] S1024x2048.size inb_S1024x2048_S1024x2048_0_0).toLoadRect)
    (S := wM.view.set) (f := X) (by rw [View.set_whole]; exact Finset.subset_univ _)) $$ H
  iintro H
  rw [show wM.view.readAt (Elt F) (Rect.unit (s := S1024x2048) ![0, 0] S1024x2048.size inb_S1024x2048_S1024x2048_0_0).toLoadRect X = X from
    Memref.readAt_unit_zero (Elt F) cc0_stg0_0 zero2 _ X]
  iapply Hk
  iexact H

theorem wp_load_o {q : PosShare TreeShare} {X : Vec F S1024x2048 .f32} {hl : oM.view.LoadsAt (Rect.unit (s := S1024x2048) ![0, 0] S1024x2048.size inb_S1024x2048_S1024x2048_0_0).toLoadRect}
    {kont : Vec F S1024x2048 .f32 → Prog (TpuEff nD τ sig (Elt F) Λ₀ .tc) α} :
    pts oM c q X
      ⊢ iprop((pts oM c q X -∗ run c (kont X) Q)
          -∗ run c (.op (.load oM (Rect.unit (s := S1024x2048) ![0, 0] S1024x2048.size inb_S1024x2048_S1024x2048_0_0).toLoadRect hl) kont) Q) := by
  iintro H Hk
  iapply (wp_load 𝒱₀ (c : Thread nD τ) none Set.univ (m := oM) (r := (Rect.unit (s := S1024x2048) ![0, 0] S1024x2048.size inb_S1024x2048_S1024x2048_0_0).toLoadRect)
    (S := oM.view.set) (f := X) (by rw [View.set_whole]; exact Finset.subset_univ _)) $$ H
  iintro H
  rw [show oM.view.readAt (Elt F) (Rect.unit (s := S1024x2048) ![0, 0] S1024x2048.size inb_S1024x2048_S1024x2048_0_0).toLoadRect X = X from
    Memref.readAt_unit_zero (Elt F) cc0_stg1_0 zero2 _ X]
  iapply Hk
  iexact H

theorem wp_store_o {X Y : Vec F S1024x2048 .f32} {hx : (oM.access (Rect.unit (s := S1024x2048) ![0, 0] S1024x2048.size inb_S1024x2048_S1024x2048_0_0)).Stores Finset.univ}
    {hm} {kont : PUnit → Prog (TpuEff nD τ sig (Elt F) Λ₀ .tc) α} :
    pts oM c fullShare X
      ⊢ iprop((pts oM c fullShare Y -∗ run c (kont ⟨⟩) Q)
          -∗ run c (.op (.store oM (Rect.unit (s := S1024x2048) ![0, 0] S1024x2048.size inb_S1024x2048_S1024x2048_0_0) Y Finset.univ hx hm) kont) Q) := by
  iintro H Hk
  iapply (wp_store 𝒱₀ (c : Thread nD τ) none Set.univ (m := oM) (r := Rect.unit (s := S1024x2048) ![0, 0] S1024x2048.size inb_S1024x2048_S1024x2048_0_0) (w := Y) (Mk := Finset.univ)
    (S := oM.view.set) (f := X) (by rw [View.set_whole]; exact Finset.subset_univ _)) $$ H
  iintro H
  rw [show (oM.access (Rect.unit (s := S1024x2048) ![0, 0] S1024x2048.size inb_S1024x2048_S1024x2048_0_0)).write (Elt F) X Y Finset.univ = Y from
    Memref.write_access_unit_zero_univ (Elt F) cc0_stg1_0 zero2 _ X Y]
  iapply Hk
  iexact H

theorem wp_load_sa {q : PosShare TreeShare} {X : Vec F S8x128 .f32} {hl : saM.view.LoadsAt (Rect.unit (s := S8x128) ![0, 0] S8x128.size inb_S8x128_S8x128_0_0).toLoadRect}
    {kont : Vec F S8x128 .f32 → Prog (TpuEff nD τ sig (Elt F) Λ₀ .tc) α} :
    pts saM c q X
      ⊢ iprop((pts saM c q X -∗ run c (kont X) Q)
          -∗ run c (.op (.load saM (Rect.unit (s := S8x128) ![0, 0] S8x128.size inb_S8x128_S8x128_0_0).toLoadRect hl) kont) Q) := by
  iintro H Hk
  iapply (wp_load 𝒱₀ (c : Thread nD τ) none Set.univ (m := saM) (r := (Rect.unit (s := S8x128) ![0, 0] S8x128.size inb_S8x128_S8x128_0_0).toLoadRect)
    (S := saM.view.set) (f := X) (by rw [View.set_whole]; exact Finset.subset_univ _)) $$ H
  iintro H
  rw [show saM.view.readAt (Elt F) (Rect.unit (s := S8x128) ![0, 0] S8x128.size inb_S8x128_S8x128_0_0).toLoadRect X = X from
    Memref.readAt_unit_zero (Elt F) cc0_scratch5 zero2 _ X]
  iapply Hk
  iexact H

theorem wp_store_sa {X Y : Vec F S8x128 .f32} {hx : (saM.access (Rect.unit (s := S8x128) ![0, 0] S8x128.size inb_S8x128_S8x128_0_0)).Stores Finset.univ}
    {hm} {kont : PUnit → Prog (TpuEff nD τ sig (Elt F) Λ₀ .tc) α} :
    pts saM c fullShare X
      ⊢ iprop((pts saM c fullShare Y -∗ run c (kont ⟨⟩) Q)
          -∗ run c (.op (.store saM (Rect.unit (s := S8x128) ![0, 0] S8x128.size inb_S8x128_S8x128_0_0) Y Finset.univ hx hm) kont) Q) := by
  iintro H Hk
  iapply (wp_store 𝒱₀ (c : Thread nD τ) none Set.univ (m := saM) (r := Rect.unit (s := S8x128) ![0, 0] S8x128.size inb_S8x128_S8x128_0_0) (w := Y) (Mk := Finset.univ)
    (S := saM.view.set) (f := X) (by rw [View.set_whole]; exact Finset.subset_univ _)) $$ H
  iintro H
  rw [show (saM.access (Rect.unit (s := S8x128) ![0, 0] S8x128.size inb_S8x128_S8x128_0_0)).write (Elt F) X Y Finset.univ = Y from
    Memref.write_access_unit_zero_univ (Elt F) cc0_scratch5 zero2 _ X Y]
  iapply Hk
  iexact H

theorem amax_const (d : Dev nD) (y : S8x128.Idx) : amax m d y = amax m d (Shape.Idx.first (by decide)) := rfl

theorem word_in_slot (k : Fin 3) (hin : ∀ i, (![k.val, 0, 0] : Fin 3 → ℕ) i + S1x1x1.size i ≤ S3x8x128.size i) (j : S1x1x1.Idx) :
    ∃ y : S8x128.Idx, (raM.view.slice (Rect.unit (s := S3x8x128) ![k.val, 0, 0] S1x1x1.size hin)).emb j = (raS k).view.emb y := by
  have hj : ∀ a : Fin 3, (j a).val = 0 := fun a => by
    have := (j a).isLt
    revert this; match a with
    | 0 => intro h; exact Nat.lt_one_iff.1 h
    | 1 => intro h; exact Nat.lt_one_iff.1 h
    | 2 => intro h; exact Nat.lt_one_iff.1 h
  let z : S1x8x128.Idx := Shape.Idx.first (by decide)
  refine ⟨(Shape.reshapeEquiv (squeezes_S1x8x128_S8x128).numel_eq).symm z, ?_⟩
  show (Rect.unit (s := S3x8x128) ![k.val, 0, 0] S1x1x1.size hin).emb j
    = (slotRect 8 128 k).emb (Shape.reshapeEquiv (squeezes_S1x8x128_S8x128).numel_eq ((Shape.reshapeEquiv (squeezes_S1x8x128_S8x128).numel_eq).symm z))
  rw [Equiv.apply_symm_apply]
  funext a
  apply Fin.ext
  rw [Rect.emb_apply, Rect.emb_apply, hj a]
  rfl

/-- One word of a received slot of magnitudes, every one of which is the sender's. -/
theorem wp_load_ra (k : Fin 3) {d : Dev nD} (hin : ∀ i, (![k.val, 0, 0] : Fin 3 → ℕ) i + S1x1x1.size i ≤ S3x8x128.size i)
    {hl : raM.view.LoadsAt (Rect.unit (s := S3x8x128) ![k.val, 0, 0] S1x1x1.size hin).toLoadRect}
    {kont : Vec F S1x1x1 .f32 → Prog (TpuEff nD τ sig (Elt F) Λ₀ .tc) α} :
    holds (raS k) c fullShare (amax m d)
      ⊢ iprop((holds (raS k) c fullShare (amax m d) -∗ run c (kont (amax1 m d)) Q)
          -∗ run c (.op (.load raM (Rect.unit (s := S3x8x128) ![k.val, 0, 0] S1x1x1.size hin).toLoadRect hl) kont) Q) := by
  unfold holds
  iintro ⟨%f, %hf, H⟩ Hk
  have hv : raM.view.readAt (Elt F) (Rect.unit (s := S3x8x128) ![k.val, 0, 0] S1x1x1.size hin).toLoadRect f = amax1 m d := by
    funext j
    obtain ⟨y, hy⟩ := word_in_slot k hin j
    have h1 : (raS k).view.read (Elt F) f y = amax m d y := congrFun hf y
    refine Eq.trans ?_ (h1.trans (amax_const m d y))
    exact congrArg f hy
  iapply (wp_load_rect 𝒱₀ (c : Thread nD τ) none Set.univ (m := raM) (r := Rect.unit (s := S3x8x128) ![k.val, 0, 0] S1x1x1.size hin)
    (S := (raS k).view.set) (f := f) (by
      intro i hi
      obtain ⟨j, -, rfl⟩ := Finset.mem_map.mp hi
      obtain ⟨y, hy⟩ := word_in_slot k hin j
      exact Finset.mem_map.mpr ⟨y, Finset.mem_univ _, hy.symm⟩)) $$ H
  iintro H
  ihave Hk := Hk $$ [H]
  · iexists f; isplitr; · (ipureintro; exact hf)
    iexact H
  rw [hv.symm]
  iexact Hk

end Access

/-! ## Credits -/

section Credits
variable {sp : Space} (k : Fin 3)

theorem credit_eq {s : Shape} {e : EltTy} (v : View sig .tc sp s e) : v.dmaCredit = RefSig.tileCredit s e := rfl
theorem credit_x (v : View sig .tc sp S1024x1024 .f32) (s : Fin 2) : v.dmaCredit = amt (.xc s) := by rw [credit_eq]; unfold amt; rfl
theorem credit_q (v : View sig .tc sp S1024x2048 .i8) : v.dmaCredit = amt (.qR k) := by rw [credit_eq]; unfold amt; rfl
theorem credit_s (v : View sig .tc sp S1024x16 .bf16) : v.dmaCredit = amt (.sR k) := by rw [credit_eq]; unfold amt; rfl
theorem credit_a (v : View sig .tc sp S8x128 .f32) : v.dmaCredit = amt (.aR k) := by rw [credit_eq]; unfold amt; rfl
theorem amt_qS : amt (.qS k) = amt (.qR k) := by unfold amt; rfl
theorem amt_sS : amt (.sS k) = amt (.sR k) := by unfold amt; rfl
theorem amt_aS : amt (.aS k) = amt (.aR k) := by unfold amt; rfl

end Credits

/-! ## What each duty hands over, role by role -/

section Pay
variable (c : Dev nD) (s : Fin 2) (r : ℕ) (k d : Fin 3)

theorem pay_bar : pay m c .bar r k
    = iprop(free (slot rqM k) (peer k c) ∗ free (slot rsM k) (peer k c) ∗ free (slot raM k) (peer k c)) := rfl
theorem pay_xc : pay m c (.xc s) r d
    = iprop(holds (slot xbM s) c fullShare (xv m c (chunk s r c)) ∗ pts (xRows (chunk s r c)) c (halfX s) (m ((c : Thread nD τ).loc main_arg0))) := rfl
theorem pay_qS : pay m c (.qS k) r d = holds (slot sqM k) c fullShare (qv m c (peer k c)) := rfl
theorem pay_sS : pay m c (.sS k) r d = holds (slot ssM k) c fullShare (sv m c (peer k c)) := rfl
theorem pay_aS : pay m c (.aS k) r d = pts saM c (thirdA k) (amax m c) := rfl
theorem pay_qR : pay m c (.qR k) r d = holds (slot rqM k) c fullShare (qv m (src k c) c) := rfl
theorem pay_sR : pay m c (.sR k) r d = holds (slot rsM k) c fullShare (sv m (src k c) c) := rfl
theorem pay_aR : pay m c (.aR k) r d = holds (raS k) c fullShare (amax m (src k c)) := rfl

end Pay

/-! ## What every step may use -/

/-- A semaphore's invariant, and that its round 0 is reached. -/
def cellAt (K : Dev nD × Role → ℕ) (x : Dev nD × Role) : sProp 𝕄 := iprop(cellInv ER (Rd m) (K x) (cell x.1 x.2) ∗ reached ER (cell x.1 x.2) 0)

instance cellAt_persistent (K : Dev nD × Role → ℕ) (x : Dev nD × Role) : BI.Persistent (cellAt m K x) := by unfold cellAt; infer_instance

/-- That of every semaphore of every device, and the levels. -/
def ctx (K : Dev nD × Role → ℕ) : sProp 𝕄 := iprop(bigSep Finset.univ (cellAt m K) ∗ levAts L lv)

instance ctx_persistent (K : Dev nD × Role → ℕ) : BI.Persistent (ctx m K) := by unfold ctx; infer_instance

theorem ctx_at (K : Dev nD × Role → ℕ) (d : Dev nD) (ρ : Role) :
    ctx m K ⊢ iprop(cellInv ER (Rd m) (K (d, ρ)) (cell d ρ) ∗ reached ER (cell d ρ) 0) := by
  unfold ctx
  exact sep_elim_left.trans ((Entails.of_eq (BI.bigSep_erase (Finset.mem_univ (d, ρ)))).trans sep_elim_left)

theorem ctx_lev (K : Dev nD × Role → ℕ) : ctx m K ⊢ (levAts L lv : sProp 𝕄) := by
  unfold ctx
  iintro ⟨-, H⟩
  iexact H

/-- Device `c` has paid `n` of its debts. -/
def owesN (n : ℕ) (c : Dev nD) : sProp 𝕄 := iprop(∃ W, owes (c : Thread nD τ) (owed n c) W)

theorem owed_step (n : ℕ) (c : Dev nD) (x : Role × Fin 3) (h : debts.drop n = x :: debts.drop (n + 1)) :
    owed n c = owed (n + 1) c + tallyAt (cell (peer x.2 c) x.1) () (amt x.1) := by
  unfold owed; rw [h]; rfl

section Ops
variable (K : Dev nD × Role → ℕ) {α : Type} {Q : α → sProp (MT nD τ sig Unit (Elt F) ℕ UU ℕ)} (c : Dev nD)

/-- The signal to the barrier of the device `j + 1` places after: it hands over the slot of the receive buffers that
    device writes. -/
theorem wp_sig (j : Fin 3) (n : ℕ) (hn : debts.drop n = (.bar, j) :: debts.drop (n + 1)) (t : Thread nD τ) (ht : t = (peer j c : Thread nD τ))
    {kont : PUnit → Prog (TpuEff nD τ sig (Elt F) Λ₀ .tc) α} :
    iprop(ctx m K ∗ owesN n c ∗ dutyTok ER (cell (peer j c) .bar) 0 j.rev
        ∗ free (slot rqM j.rev) c ∗ free (slot rsM j.rev) c ∗ free (slot raM j.rev) c)
      ⊢ iprop((owesN (n + 1) c -∗ run c (kont ⟨⟩) Q) -∗ run c (.op (.semSignal t barS 1) kont) Q) := by
  subst ht
  iintro ⟨#HC, HO, Ht, H1, H2, H3⟩ Hk
  ihave HI := (ctx_at m K (peer j c) .bar) $$ HC
  icases HI with ⟨#HI, #Hr⟩
  unfold owesN
  icases HO with ⟨%W, HO⟩
  iapply (Rounds.wp_signal 𝒱₀ ER (Rd m) (c : Thread nD τ) none (dst := (peer j c : Thread nD τ)) (sem := barS) (κ := K (peer j c, .bar)) (r := 0)
      (d := j.rev) (by rw [duties_cell m (peer j c) .bar Nat.one_pos]; exact Finset.mem_univ _) (amount_cell m (peer j c) .bar 0 j.rev) () (owed (n + 1) c)
      (owed_step n c (.bar, j) hn)) $$ [HO Ht H1 H2 H3]
  · isplitr; · iexact HI
    isplitl [HO]; · iexact HO
    isplitl [Ht]; · iexact Ht
    isplitl
    · rw [payload_cell m (peer j c) .bar 0 j.rev]; rw [pay_bar, peer_rev_peer]
      isplitl [H1]; · iexact H1
      isplitl [H2]; · iexact H2
      iexact H3
    iexact Hr
  iintro HO
  iapply Hk
  iexists W; iexact HO

/-- The wait on the barrier. -/
theorem wp_wait_bar (n : ℕ) (h : ∀ x ∈ debts.drop n, lvR .bar < lvR x.1)
    {kont : PUnit → Prog (TpuEff nD τ sig (Elt F) Λ₀ .tc) α} :
    iprop(ctx m K ∗ cred (tallyAt (cell c .bar) () 3) ∗ owesN n c ∗ atPos ER (cell c .bar) 0 ∅ 0)
      ⊢ iprop((owesN n c ∗ atPos ER (cell c .bar) 1 ∅ 0 ∗ pay m c .bar 0 0 ∗ pay m c .bar 0 1 ∗ pay m c .bar 0 2 -∗ run c (kont ⟨⟩) Q)
          -∗ run c (.op (.semWait barS 3) kont) Q) := by
  iintro ⟨#HC, Hc, HO, Ha⟩ Hk
  ihave HI := (ctx_at m K c .bar) $$ HC
  icases HI with ⟨#HI, #Hr⟩
  ihave #Hl := (ctx_lev m K) $$ HC
  unfold owesN
  icases HO with ⟨%W, HO⟩
  iapply (Rounds.wp_wait_rest_token 𝒱₀ ER (Rd m) (c : Thread nD τ) none (κ := K (c, .bar))
      (wpE_semWait_eq 𝒱₀ (c : Thread nD τ) none Set.univ) (Set.mem_univ _) () (O := owed n c) (W := W) (R := 0) (m := 0) (T := ∅)
      (by rw [expect_cell m c .bar Nat.one_pos]; rfl)) $$ [Hc HO Ha]
  · isplitr; · iexact HI
    isplitl [Hc]; · iexact Hc
    isplitl [HO]; · iexact HO
    isplitr; · iapply (mayWait c .bar n h); iexact Hl
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-- The wait for a copy. -/
theorem wp_wait (ρ' : Role) (r n : ℕ) (hr : r < rounds ρ') (hd : dutySet ρ' = {0}) (h : ∀ x ∈ debts.drop n, lvR ρ' < lvR x.1)
    {sp sp' : Space} {s s' : Shape} {e e' : EltTy} {sem : DmaSem sig} (hs : roleSem ρ' = .dma sem)
    {M' : Memref sig .tc sp' s' e'} {M : Memref sig .tc sp s e} {h' : M'.view.WordExact} {h'' : M.view.WordExact} (ha : M.view.dmaCredit = amt ρ')
    {kont : PUnit → Prog (TpuEff nD τ sig (Elt F) Λ₀ .tc) α} :
    iprop(ctx m K ∗ cred (tallyAt (cell c ρ') () (amt ρ')) ∗ owesN n c ∗ atPos ER (cell c ρ') r ∅ 0)
      ⊢ iprop((owesN n c ∗ atPos ER (cell c ρ') (r + 1) ∅ 0 ∗ reached ER (cell c ρ') (r + 1) ∗ pay m c ρ' r 0 -∗ run c (kont ⟨⟩) Q)
          -∗ run c (.op (.waitDma2 sem M' M h' h'') kont) Q) := by
  iintro ⟨#HC, Hc, HO, Ha⟩ Hk
  ihave HI := (ctx_at m K c ρ') $$ HC
  icases HI with ⟨#HI, #Hr⟩
  ihave #Hl := (ctx_lev m K) $$ HC
  unfold owesN
  icases HO with ⟨%W, HO⟩
  iapply (Rounds.wp_wait_rest_token 𝒱₀ ER (Rd m) (c : Thread nD τ) none (κ := K (c, ρ')) (sm := roleSem ρ') (k' := amt ρ')
      (fun Kt => by rw [hs, ← ha]; exact wpE_waitDma2_eq 𝒱₀ (c : Thread nD τ) none Set.univ Kt) (Set.mem_univ _) () (O := owed n c) (W := W) (R := r) (m := 0) (T := ∅)
      (by rw [expect_one m c ρ' hr hd, Nat.zero_add])) $$ [Hc HO Ha]
  · isplitr; · iexact HI
    isplitl [Hc]; · iexact Hc
    isplitl [HO]; · iexact HO
    isplitr; · iapply (mayWait c ρ' n h); iexact Hl
    iexact Ha
  iintro ⟨HO, Ha, Hr', Hp⟩
  ihave Hp := (Entails.of_eq (rest_one m c ρ' hr hd)) $$ Hp
  iapply Hk
  isplitl [HO]; · iexists _; iexact HO
  isplitl [Ha]; · iexact Ha
  isplitl [Hr']; · iexact Hr'
  iexact Hp

/-! ### The copies -/

/-- What is left of a half of `x` while the copy of the rows of `e` into slot `s` reads from it. -/
def restX (s : Fin 2) (c e : Dev nD) : sProp 𝕄 :=
  xM.view.loc (c : Thread nD τ) ↦[xM.view.set \ (xRows e).view.set]{halfX s} (m ((c : Thread nD τ).loc main_arg0))

theorem rows_subset (e : Dev nD) : (xRows e).view.set ⊆ xM.view.set := View.set_slice_subset _ _

theorem take_rows (s : Fin 2) (c e : Dev nD) : (pts xM c (halfX s) (m ((c : Thread nD τ).loc main_arg0)) : sProp 𝕄)
    ⊢ iprop(pts (xRows e) c (halfX s) (m ((c : Thread nD τ).loc main_arg0)) ∗ restX m s c e) :=
  (pointsTo_split_subset (rows_subset e)).1
theorem put_rows (s : Fin 2) (c e : Dev nD) :
    iprop(pts (xRows e) c (halfX s) (m ((c : Thread nD τ).loc main_arg0)) ∗ restX m s c e) ⊢ (pts xM c (halfX s) (m ((c : Thread nD τ).loc main_arg0)) : sProp 𝕄) :=
  (pointsTo_split_subset (rows_subset e)).2

/-- What a copy into a squeezed slot leaves in the slot. -/
theorem landed {sp : Space} {s s' : Shape} {e : EltTy} (v : View sig .tc sp s e) (h : s'.numel = s.numel) (f : v.ty.Contents (Elt F)) (w : s'.Idx → Elt F e) :
    v.read (Elt F) ((v.reshape s' h).write (Elt F) f w Finset.univ) = fun x => w ((Shape.reshapeEquiv h).symm x) := by
  rw [View.write_reshape_univ, View.read_write_univ]

/-- A squeezed slot copied into a squeezed slot: the second then holds what the first did. -/
theorem landed_slot {s s' : Shape} {e : EltTy} (M M' : Memref sig .tc .vmem s e) (hq : s.Squeezes s') (d : Dev nD)
    (fd : M'.view.ty.Contents (Elt F)) (fs : M.view.ty.Contents (Elt F)) {X : s.Idx → Elt F e} (hfs : M.view.read (Elt F) fs = X) :
    ((M'.squeeze s' hq).view.loc (d : Thread nD τ) ↦[(M'.squeeze s' hq).view.set]{fullShare}
        ((M'.squeeze s' hq).view.write (Elt F) fd ((M.squeeze s' hq).view.read (Elt F) fs) Finset.univ)) ⊢ (holds M' d fullShare X : sProp 𝕄) := by
  unfold holds
  iintro Hd
  iexists (M'.squeeze s' hq).view.write (Elt F) fd ((M.squeeze s' hq).view.read (Elt F) fs) Finset.univ
  isplitr
  · ipureintro
    refine (landed M'.view hq.numel_eq fd _).trans ?_
    rw [← hfs]
    funext x
    exact congrArg (fun y => M.view.read (Elt F) fs y) (Equiv.apply_symm_apply (Shape.reshapeEquiv hq.numel_eq) x)
  ihave Hd := (Entails.of_eq (by rw [View.set_reshape])) $$ Hd
  iexact Hd

theorem squeeze_holds {s s' : Shape} {e : EltTy} (M : Memref sig .tc .vmem s e) (hq : s.Squeezes s') (d : Dev nD)
    (fs : M.view.ty.Contents (Elt F)) {X : s.Idx → Elt F e} (hfs : M.view.read (Elt F) fs = X) :
    ((M.squeeze s' hq).view.loc (d : Thread nD τ) ↦[(M.squeeze s' hq).view.set]{fullShare} fs) ⊢ (holds M d fullShare X : sProp 𝕄) := by
  unfold holds
  iintro Hs
  iexists fs; isplitr
  · ipureintro; exact hfs
  iapply (Entails.of_eq (congrArg (fun S => (M.view.loc (d : Thread nD τ) ↦[S]{fullShare} fs : sProp 𝕄)) (View.set_reshape M.view hq.numel_eq))) $$ Hs

theorem pts_squeeze {sp : Space} {s s' : Shape} {e : EltTy} (M : Memref sig .tc sp s e) (hq : s.Squeezes s') (d : Dev nD) (q : PosShare TreeShare)
    (fs : M.view.ty.Contents (Elt F)) : (pts (M.squeeze s' hq) d q fs : sProp 𝕄) = pts M d q fs :=
  congrArg (fun S => (M.view.loc (d : Thread nD τ) ↦[S]{q} fs : sProp 𝕄)) (View.set_reshape M.view hq.numel_eq)

/-- The copy of the rows of `e` into slot `s` of the double buffer. -/
theorem wp_copy_x (s : Fin 2) (r : ℕ) (hr : r < 2) (off : Fin 2 → ℕ) (hoff : off = ![1024 * (chunk s r c).val, 0])
    {hin : ∀ i, off i + S1024x1024.size i ≤ S4096x1024.size i} {hst} {hsrc hdst hsem}
    {kont : PUnit → Prog (TpuEff nD τ sig (Elt F) Λ₀ .tc) α} :
    iprop(ctx m K ∗ reached ER (cell c (.xc s)) r ∗ pts xM c (halfX s) (m ((c : Thread nD τ).loc main_arg0)) ∗ free (slot xbM s) c
        ∗ dutyTok ER (cell c (.xc s)) r 0)
      ⊢ iprop((cred (tallyAt (cell c (.xc s)) () (amt (.xc s))) ∗ restX m s c (chunk s r c) -∗ run c (kont ⟨⟩) Q)
          -∗ run c (.op (.enqueueDma (xM.slice (Rect.unit (s := S4096x1024) off S1024x1024.size hin) hst) (.here (xbS s))
              (.dma (sem2 cc0_scratch7 s).sem) hsrc hdst hsem) kont) Q) := by
  subst hoff
  unfold free
  iintro ⟨#HC, #Hr, Hx, ⟨%f, Hb⟩, Ht⟩ Hk
  ihave HI := (ctx_at m K c (.xc s)) $$ HC
  icases HI with ⟨#HI, -⟩
  ihave Hx := (take_rows m s c (chunk s r c)) $$ Hx
  icases Hx with ⟨Hx, Hrest⟩
  ihave Hb := (Entails.of_eq (pts_squeeze (slot xbM s) squeezes_S1x1024x1024_S1024x1024 c fullShare f).symm) $$ Hb
  iapply (Rounds.wp_copy_pointsTo 𝒱₀ ER (Rd m) (c : Thread nD τ) none (κ := K (c, .xc s)) (r := r) (d := 0) (src := xRows (chunk s r c)) (dst := xbS s)
      (sem := roleSem (.xc s)) (q := halfX s) (fs := m ((c : Thread nD τ).loc main_arg0)) (fd := f)
      (by rw [duties_cell m c (.xc s) hr]; exact Finset.mem_singleton_self _) () (amt (.xc s)) (credit_x _ s) (amount_cell m c (.xc s) r 0) (by
        rw [payload_cell m c (.xc s) r 0, pay_xc]
        iintro ⟨Hb, Hx⟩
        isplitl [Hb]
        · ihave Hb := (Entails.of_eq (pts_squeeze (slot xbM s) squeezes_S1x1024x1024_S1024x1024 c fullShare _)) $$ Hb
          unfold holds
          iexists (xbS s).view.write (Elt F) f ((xRows (chunk s r c)).view.read (Elt F) (m ((c : Thread nD τ).loc main_arg0))) Finset.univ
          isplitr
          · ipureintro; exact landed (slot xbM s).view (squeezes_S1x1024x1024_S1024x1024).numel_eq f _
          iexact Hb
        iexact Hx)) $$ [Hx Hb Ht]
  · isplitr; · iexact HI
    isplitl [Hx]; · iexact Hx
    isplitl [Hb]; · iexact Hb
    isplitl [Ht]; · iexact Ht
    iexact Hr
  iintro Hc
  iapply Hk
  isplitl [Hc]; · iexact Hc
  iexact Hrest

/-- The copy of the codes of slot `k` to the device `k + 1` places after. -/
theorem wp_send_q (k : Fin 3) (n : ℕ) (hn : debts.drop n = (.qR k, k) :: debts.drop (n + 1)) (p : Dev nD) (hp : p = peer k c)
    {hsc hsrc hdst hsem} {kont : PUnit → Prog (TpuEff nD τ sig (Elt F) Λ₀ .tc) α} :
    iprop(ctx m K ∗ holds (slot sqM k) c fullShare (qv m c (peer k c)) ∗ free (slot rqM k) (peer k c) ∗ owesN n c
        ∗ dutyTok ER (cell c (.qS k)) 0 0 ∗ dutyTok ER (cell (peer k c) (.qR k)) 0 0)
      ⊢ iprop((cred (tallyAt (cell c (.qS k)) () (amt (.qS k))) ∗ owesN (n + 1) c -∗ run c (kont ⟨⟩) Q)
          -∗ run c (.op (.enqueueDma (sqS k) (.remote (Dev.tc p) (rqS k : Memref sig (Dev.tc p : Thread nD τ).2.kind .vmem S1024x2048 .i8)
              (.dma (sem3 cc0_scratch8 k).sem) hsc) (.dma (sem3 cc0_scratch9 k).sem) hsrc hdst hsem) kont) Q) := by
  subst hp
  unfold holds free owesN
  iintro ⟨#HC, ⟨%fs, %hfs, Hs⟩, ⟨%fd, Hd⟩, ⟨%W, HO⟩, Ht1, Ht2⟩ Hk
  ihave HI := (ctx_at m K c (.qS k)) $$ HC
  icases HI with ⟨#HI1, #Hr1⟩
  ihave HI := (ctx_at m K (peer k c) (.qR k)) $$ HC
  icases HI with ⟨#HI2, #Hr2⟩
  ihave Hs := (Entails.of_eq (pts_squeeze (slot sqM k) squeezes_S1x1024x2048_S1024x2048 c fullShare fs).symm) $$ Hs
  ihave Hd := (Entails.of_eq (pts_squeeze (slot rqM k) squeezes_S1x1024x2048_S1024x2048 (peer k c) fullShare fd).symm) $$ Hd
  iapply (Rounds.wp_send_pointsTo 𝒱₀ ER (Rd m) (c : Thread nD τ) none (c' := (peer k c : Thread nD τ)) (κ₁ := K (c, .qS k)) (κ₂ := K (peer k c, .qR k))
      (r₁ := 0) (d₁ := 0) (r₂ := 0) (d₂ := 0) (sS := roleSem (.qS k)) (sem := roleSem (.qR k)) (src := sqS k) (dst := rqS k) (q := fullShare) (fs := fs) (fd := fd)
      (by rw [duties_cell m c (.qS k) Nat.one_pos]; exact Finset.mem_singleton_self _)
      (by rw [duties_cell m (peer k c) (.qR k) Nat.one_pos]; exact Finset.mem_singleton_self _)
      () () (amt (.qR k)) (credit_q k _) ((amount_cell m c (.qS k) 0 0).trans (amt_qS k)) (amount_cell m (peer k c) (.qR k) 0 0) (owed (n + 1) c)
      (owed_step n c (.qR k, k) hn)
      (by rw [payload_cell m c (.qS k) 0 0, pay_qS]; exact squeeze_holds (slot sqM k) squeezes_S1x1024x2048_S1024x2048 c fs hfs)
      (by
        rw [payload_cell m (peer k c) (.qR k) 0 0, pay_qR, src_peer]
        exact landed_slot (slot sqM k) (slot rqM k) squeezes_S1x1024x2048_S1024x2048 (peer k c) fd fs hfs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · rw [amt_qS]; iexact Hc
  iexists W; iexact HO

/-- The copy of the scales of slot `k` to the device `k + 1` places after. -/
theorem wp_send_s (k : Fin 3) (n : ℕ) (hn : debts.drop n = (.sR k, k) :: debts.drop (n + 1)) (p : Dev nD) (hp : p = peer k c)
    {hsc hsrc hdst hsem} {kont : PUnit → Prog (TpuEff nD τ sig (Elt F) Λ₀ .tc) α} :
    iprop(ctx m K ∗ holds (slot ssM k) c fullShare (sv m c (peer k c)) ∗ free (slot rsM k) (peer k c) ∗ owesN n c
        ∗ dutyTok ER (cell c (.sS k)) 0 0 ∗ dutyTok ER (cell (peer k c) (.sR k)) 0 0)
      ⊢ iprop((cred (tallyAt (cell c (.sS k)) () (amt (.sS k))) ∗ owesN (n + 1) c -∗ run c (kont ⟨⟩) Q)
          -∗ run c (.op (.enqueueDma (ssS k) (.remote (Dev.tc p) (rsS k : Memref sig (Dev.tc p : Thread nD τ).2.kind .vmem S1024x16 .bf16)
              (.dma (sem3 cc0_scratch10 k).sem) hsc) (.dma (sem3 cc0_scratch11 k).sem) hsrc hdst hsem) kont) Q) := by
  subst hp
  unfold holds free owesN
  iintro ⟨#HC, ⟨%fs, %hfs, Hs⟩, ⟨%fd, Hd⟩, ⟨%W, HO⟩, Ht1, Ht2⟩ Hk
  ihave HI := (ctx_at m K c (.sS k)) $$ HC
  icases HI with ⟨#HI1, #Hr1⟩
  ihave HI := (ctx_at m K (peer k c) (.sR k)) $$ HC
  icases HI with ⟨#HI2, #Hr2⟩
  ihave Hs := (Entails.of_eq (pts_squeeze (slot ssM k) squeezes_S1x1024x16_S1024x16 c fullShare fs).symm) $$ Hs
  ihave Hd := (Entails.of_eq (pts_squeeze (slot rsM k) squeezes_S1x1024x16_S1024x16 (peer k c) fullShare fd).symm) $$ Hd
  iapply (Rounds.wp_send_pointsTo 𝒱₀ ER (Rd m) (c : Thread nD τ) none (c' := (peer k c : Thread nD τ)) (κ₁ := K (c, .sS k)) (κ₂ := K (peer k c, .sR k))
      (r₁ := 0) (d₁ := 0) (r₂ := 0) (d₂ := 0) (sS := roleSem (.sS k)) (sem := roleSem (.sR k)) (src := ssS k) (dst := rsS k) (q := fullShare) (fs := fs) (fd := fd)
      (by rw [duties_cell m c (.sS k) Nat.one_pos]; exact Finset.mem_singleton_self _)
      (by rw [duties_cell m (peer k c) (.sR k) Nat.one_pos]; exact Finset.mem_singleton_self _)
      () () (amt (.sR k)) (credit_s k _) ((amount_cell m c (.sS k) 0 0).trans (amt_sS k)) (amount_cell m (peer k c) (.sR k) 0 0) (owed (n + 1) c)
      (owed_step n c (.sR k, k) hn)
      (by rw [payload_cell m c (.sS k) 0 0, pay_sS]; exact squeeze_holds (slot ssM k) squeezes_S1x1024x16_S1024x16 c fs hfs)
      (by
        rw [payload_cell m (peer k c) (.sR k) 0 0, pay_sR, src_peer]
        exact landed_slot (slot ssM k) (slot rsM k) squeezes_S1x1024x16_S1024x16 (peer k c) fd fs hfs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · rw [amt_sS]; iexact Hc
  iexists W; iexact HO

theorem landed_a (k : Fin 3) (d : Dev nD) (fd : (raS k).view.ty.Contents (Elt F)) (X : Vec F S8x128 .f32) :
    ((raS k).view.loc (d : Thread nD τ) ↦[(raS k).view.set]{fullShare} ((raS k).view.write (Elt F) fd (saM.view.read (Elt F) X) Finset.univ))
      ⊢ (holds (raS k) d fullShare X : sProp 𝕄) := by
  rw [show saM.view.read (Elt F) X = X from rfl]
  unfold holds
  iintro Hd
  iexists (raS k).view.write (Elt F) fd X Finset.univ
  isplitr
  · ipureintro; exact View.read_write_univ _ _
  iexact Hd

/-- The copy of the largest magnitude to the device `k + 1` places after. -/
theorem wp_send_a (k : Fin 3) (n : ℕ) (hn : debts.drop n = (.aR k, k) :: debts.drop (n + 1)) (p : Dev nD) (hp : p = peer k c)
    {hsc hsrc hdst hsem} {kont : PUnit → Prog (TpuEff nD τ sig (Elt F) Λ₀ .tc) α} :
    iprop(ctx m K ∗ pts saM c (thirdA k) (amax m c) ∗ free (slot raM k) (peer k c) ∗ owesN n c
        ∗ dutyTok ER (cell c (.aS k)) 0 0 ∗ dutyTok ER (cell (peer k c) (.aR k)) 0 0)
      ⊢ iprop((cred (tallyAt (cell c (.aS k)) () (amt (.aS k))) ∗ owesN (n + 1) c -∗ run c (kont ⟨⟩) Q)
          -∗ run c (.op (.enqueueDma saM (.remote (Dev.tc p) (raS k : Memref sig (Dev.tc p : Thread nD τ).2.kind .vmem S8x128 .f32)
              (.dma (sem3 cc0_scratch12 k).sem) hsc) (.dma (sem3 cc0_scratch13 k).sem) hsrc hdst hsem) kont) Q) := by
  subst hp
  unfold free owesN
  iintro ⟨#HC, Hs, ⟨%fd, Hd⟩, ⟨%W, HO⟩, Ht1, Ht2⟩ Hk
  ihave HI := (ctx_at m K c (.aS k)) $$ HC
  icases HI with ⟨#HI1, #Hr1⟩
  ihave HI := (ctx_at m K (peer k c) (.aR k)) $$ HC
  icases HI with ⟨#HI2, #Hr2⟩
  ihave Hd := (Entails.of_eq (pts_squeeze (slot raM k) squeezes_S1x8x128_S8x128 (peer k c) fullShare fd).symm) $$ Hd
  iapply (Rounds.wp_send_pointsTo 𝒱₀ ER (Rd m) (c : Thread nD τ) none (c' := (peer k c : Thread nD τ)) (κ₁ := K (c, .aS k)) (κ₂ := K (peer k c, .aR k))
      (r₁ := 0) (d₁ := 0) (r₂ := 0) (d₂ := 0) (sS := roleSem (.aS k)) (sem := roleSem (.aR k)) (src := saM) (dst := raS k) (q := thirdA k) (fs := amax m c) (fd := fd)
      (by rw [duties_cell m c (.aS k) Nat.one_pos]; exact Finset.mem_singleton_self _)
      (by rw [duties_cell m (peer k c) (.aR k) Nat.one_pos]; exact Finset.mem_singleton_self _)
      () () (amt (.aR k)) (credit_a k _) ((amount_cell m c (.aS k) 0 0).trans (amt_aS k)) (amount_cell m (peer k c) (.aR k) 0 0) (owed (n + 1) c)
      (owed_step n c (.aR k, k) hn)
      (by rw [payload_cell m c (.aS k) 0 0, pay_aS])
      (by
        rw [payload_cell m (peer k c) (.aR k) 0 0, pay_aR, src_peer]
        exact landed_a k (peer k c) fd (amax m c))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · rw [amt_aS]; iexact Hc
  iexists W; iexact HO

end Ops

end Cert.KernelIdeal.Dist
-- ==== Proof.Ideal.Waits.lean ====
/-
# The steps, as the body takes them
-/
module

public import proofs.«01_k».proof.Proof.Ideal.Steps

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-- The array of rows, whole, at the half that the copies into slot `s` read. -/
abbrev xHalf (s : Fin 2) : sProp 𝕄 := pts xM c (halfX s) (m ((c : Thread nD τ).loc main_arg0))

/-- The credit of one copy. -/
abbrev crd (c : Dev nD) (ρ : Role) : sProp 𝕄 := cred (tallyAt (cell c ρ) () (amt ρ))
/-- The right to pay a duty of a copy. -/
abbrev tok (c : Dev nD) (ρ : Role) (r : ℕ) : sProp 𝕄 := dutyTok ER (cell c ρ) r 0
/-- The waits of a semaphore done so far. -/
abbrev pos (c : Dev nD) (ρ : Role) (r : ℕ) : sProp 𝕄 := atPos ER (cell c ρ) r ∅ 0

theorem dev_eq1 : (⟨k0_dev1 c, k0_dev1_lt c⟩ : Dev nD) = peer 0 c := by revert c; decide +kernel
theorem dev_eq2 : (⟨k0_dev2 c, k0_dev2_lt c⟩ : Dev nD) = peer 1 c := by revert c; decide +kernel
theorem dev_eq3 : (⟨k0_dev3 c, k0_dev3_lt c⟩ : Dev nD) = peer 2 c := by revert c; decide +kernel
theorem dev_eq4 : (⟨k0_dev4 c, k0_dev4_lt c⟩ : Dev nD) = peer 0 c := by revert c; decide +kernel
theorem dev_eq5 : (⟨k0_dev5 c, k0_dev5_lt c⟩ : Dev nD) = peer 0 c := by revert c; decide +kernel
theorem dev_eq6 : (⟨k0_dev6 c, k0_dev6_lt c⟩ : Dev nD) = peer 1 c := by revert c; decide +kernel
theorem dev_eq7 : (⟨k0_dev7 c, k0_dev7_lt c⟩ : Dev nD) = peer 1 c := by revert c; decide +kernel
theorem dev_eq8 : (⟨k0_dev8 c, k0_dev8_lt c⟩ : Dev nD) = peer 2 c := by revert c; decide +kernel
theorem dev_eq9 : (⟨k0_dev9 c, k0_dev9_lt c⟩ : Dev nD) = peer 2 c := by revert c; decide +kernel
theorem dev_eq10 : (⟨k0_dev10 c, k0_dev10_lt c⟩ : Dev nD) = peer 0 c := by revert c; decide +kernel
theorem dev_eq11 : (⟨k0_dev11 c, k0_dev11_lt c⟩ : Dev nD) = peer 1 c := by revert c; decide +kernel
theorem dev_eq12 : (⟨k0_dev12 c, k0_dev12_lt c⟩ : Dev nD) = peer 2 c := by revert c; decide +kernel

theorem off_eq1 : k0_off1 c 1#32 = ![1024 * (chunk 0 0 c).val, 0] := by revert c; decide +kernel
theorem off_eq2 : k0_off1 c 2#32 = ![1024 * (chunk 1 0 c).val, 0] := by revert c; decide +kernel
theorem off_eq3 : k0_off1 c 3#32 = ![1024 * (chunk 0 1 c).val, 0] := by revert c; decide +kernel
theorem off_eq4 : k0_off2 c = ![1024 * (chunk 1 1 c).val, 0] := by revert c; decide +kernel

theorem chunk_own : chunk 1 1 c = c := by revert c; decide

/-- What the `j`-th signal hands over: the token of its duty, and the slots its target may write. -/
def signal (j : Fin 3) (c : Dev nD) : sProp 𝕄 :=
  iprop(dutyTok ER (cell (peer j c) .bar) 0 j.rev ∗ free (slot rqM j.rev) c ∗ free (slot rsM j.rev) c
    ∗ free (slot raM j.rev) c)

section Ops
variable {α : Type} {Q : α → sProp (MT nD τ sig Unit (Elt F) ℕ UU ℕ)}

theorem run_ret {a : α} : Q a ⊢ run c (.ret a) Q := by
  unfold run
  rw [wp_ret]; iintro H; imodintro; iexact H

variable {kont : PUnit → Prog (TpuEff nD τ sig (Elt F) Λ₀ .tc) α} (n : ℕ)

theorem wp_signal (j : Fin 3) (hn : debts.drop n = (.bar, j) :: debts.drop (n + 1)) (t : Thread nD τ)
    (ht : t = (peer j c : Thread nD τ)) (w : ℤ) (hw : w = 1) :
    iprop(ctx m K ∗ owesN n c ∗ signal j c)
      ⊢ iprop((owesN (n + 1) c -∗ run c (kont ⟨⟩) Q) -∗ run c (.op (.semSignal t barS w) kont) Q) := by
  subst hw
  exact wp_sig m K c j n hn t ht

theorem wp_signals (h : ∀ x ∈ debts.drop n, lvR .bar < lvR x.1) (w : ℤ) (hw : w = 3) :
    iprop(ctx m K ∗ cred (tallyAt (cell c .bar) () 3) ∗ owesN n c ∗ pos c .bar 0)
      ⊢ iprop((owesN n c ∗ pos c .bar 1 ∗ pay m c .bar 0 0 ∗ pay m c .bar 0 1 ∗ pay m c .bar 0 2
          -∗ run c (kont ⟨⟩) Q) -∗ run c (.op (.semWait barS w) kont) Q) := by
  subst hw
  exact wp_wait_bar m K c n h

variable {sp : Space} {e : EltTy} {s' : Shape} {M' : Memref sig .tc sp s' e} {h' : M'.view.WordExact}

/-- The wait for the rows of `x` copied into slot `s`. -/
theorem wait_x (s : Fin 2) (r : ℕ) (hr : r < 2) (h : ∀ x ∈ debts.drop n, lvR (.xc s) < lvR x.1)
    {h'' : (xbS s).view.WordExact} :
    iprop(ctx m K ∗ crd c (.xc s) ∗ owesN n c ∗ pos c (.xc s) r ∗ restX m s c (chunk s r c))
      ⊢ iprop((owesN n c ∗ pos c (.xc s) (r + 1) ∗ reached ER (cell c (.xc s)) (r + 1)
            ∗ holds (slot xbM s) c fullShare (xv m c (chunk s r c)) ∗ xHalf m c s -∗ run c (kont ⟨⟩) Q)
          -∗ run c (.op (.waitDma2 (sem2 cc0_scratch7 s).sem M' (xbS s) h' h'') kont) Q) := by
  iintro ⟨HC, Hc, HO, Ha, Hr⟩ Hk
  iapply (wp_wait m K c (.xc s) r n hr rfl h (sem := (sem2 cc0_scratch7 s).sem) rfl (credit_x _ s)) $$ [HC Hc HO Ha]
  · iframe ∗
  iintro ⟨HO, Ha, Hr', Hp⟩
  ihave Hp := (Entails.of_eq (pay_xc m c s r 0)) $$ Hp
  icases Hp with ⟨Hb, Hx⟩
  iapply Hk
  isplitl [HO]; · iexact HO
  isplitl [Ha]; · iexact Ha
  isplitl [Hr']; · iexact Hr'
  isplitl [Hb]; · iexact Hb
  iapply (put_rows m s c (chunk s r c))
  isplitl [Hx]; · iexact Hx
  iexact Hr

variable (k : Fin 3)

/-- A wait with nothing but what the duty hands over. -/
theorem wait_one (ρ : Role) (hr : 0 < rounds ρ) (hd : dutySet ρ = {0}) (h : ∀ x ∈ debts.drop n, lvR ρ < lvR x.1)
    {s : Shape} {e' : EltTy} {sem : DmaSem sig} (hs : roleSem ρ = .dma sem) {M : Memref sig .tc .vmem s e'}
    {h'' : M.view.WordExact} (ha : M.view.dmaCredit = amt ρ) :
    iprop(ctx m K ∗ crd c ρ ∗ owesN n c ∗ pos c ρ 0)
      ⊢ iprop((owesN n c ∗ pos c ρ 1 ∗ pay m c ρ 0 0 -∗ run c (kont ⟨⟩) Q)
          -∗ run c (.op (.waitDma2 sem M' M h' h'') kont) Q) := by
  iintro ⟨HC, Hc, HO, Ha⟩ Hk
  iapply (wp_wait m K c ρ 0 n hr hd h hs ha) $$ [HC Hc HO Ha]
  · iframe ∗
  iintro ⟨HO, Ha, -, Hp⟩
  iapply Hk
  isplitl [HO]; · iexact HO
  isplitl [Ha]; · iexact Ha
  iexact Hp

theorem wait_qR (h : ∀ x ∈ debts.drop n, lvR (.qR k) < lvR x.1) {h'' : (rqS k).view.WordExact} :
    iprop(ctx m K ∗ crd c (.qR k) ∗ owesN n c ∗ pos c (.qR k) 0)
      ⊢ iprop((owesN n c ∗ pos c (.qR k) 1 ∗ holds (slot rqM k) c fullShare (qv m (src k c) c) -∗ run c (kont ⟨⟩) Q)
          -∗ run c (.op (.waitDma2 (sem3 cc0_scratch9 k).sem M' (rqS k) h' h'') kont) Q) :=
  wait_one m K c n (.qR k) Nat.one_pos rfl h rfl (credit_q k _)

theorem wait_sR (h : ∀ x ∈ debts.drop n, lvR (.sR k) < lvR x.1) {h'' : (rsS k).view.WordExact} :
    iprop(ctx m K ∗ crd c (.sR k) ∗ owesN n c ∗ pos c (.sR k) 0)
      ⊢ iprop((owesN n c ∗ pos c (.sR k) 1 ∗ holds (slot rsM k) c fullShare (sv m (src k c) c) -∗ run c (kont ⟨⟩) Q)
          -∗ run c (.op (.waitDma2 (sem3 cc0_scratch11 k).sem M' (rsS k) h' h'') kont) Q) :=
  wait_one m K c n (.sR k) Nat.one_pos rfl h rfl (credit_s k _)

theorem wait_aR (h : ∀ x ∈ debts.drop n, lvR (.aR k) < lvR x.1) {h'' : (raS k).view.WordExact} :
    iprop(ctx m K ∗ crd c (.aR k) ∗ owesN n c ∗ pos c (.aR k) 0)
      ⊢ iprop((owesN n c ∗ pos c (.aR k) 1 ∗ holds (raS k) c fullShare (amax m (src k c)) -∗ run c (kont ⟨⟩) Q)
          -∗ run c (.op (.waitDma2 (sem3 cc0_scratch13 k).sem M' (raS k) h' h'') kont) Q) :=
  wait_one m K c n (.aR k) Nat.one_pos rfl h rfl (credit_a k _)

theorem wait_qS (h : ∀ x ∈ debts.drop n, lvR (.qS k) < lvR x.1) {h'' : (sqS k).view.WordExact} :
    iprop(ctx m K ∗ crd c (.qS k) ∗ owesN n c ∗ pos c (.qS k) 0)
      ⊢ iprop((owesN n c ∗ pos c (.qS k) 1 ∗ holds (slot sqM k) c fullShare (qv m c (peer k c)) -∗ run c (kont ⟨⟩) Q)
          -∗ run c (.op (.waitDma2 (sem3 cc0_scratch8 k).sem M' (sqS k) h' h'') kont) Q) :=
  wait_one m K c n (.qS k) Nat.one_pos rfl h rfl ((credit_q k _).trans (amt_qS k).symm)

theorem wait_sS (h : ∀ x ∈ debts.drop n, lvR (.sS k) < lvR x.1) {h'' : (ssS k).view.WordExact} :
    iprop(ctx m K ∗ crd c (.sS k) ∗ owesN n c ∗ pos c (.sS k) 0)
      ⊢ iprop((owesN n c ∗ pos c (.sS k) 1 ∗ holds (slot ssM k) c fullShare (sv m c (peer k c)) -∗ run c (kont ⟨⟩) Q)
          -∗ run c (.op (.waitDma2 (sem3 cc0_scratch10 k).sem M' (ssS k) h' h'') kont) Q) :=
  wait_one m K c n (.sS k) Nat.one_pos rfl h rfl ((credit_s k _).trans (amt_sS k).symm)

theorem wait_aS (h : ∀ x ∈ debts.drop n, lvR (.aS k) < lvR x.1) {h'' : saM.view.WordExact} :
    iprop(ctx m K ∗ crd c (.aS k) ∗ owesN n c ∗ pos c (.aS k) 0)
      ⊢ iprop((owesN n c ∗ pos c (.aS k) 1 ∗ pts saM c (thirdA k) (amax m c) -∗ run c (kont ⟨⟩) Q)
          -∗ run c (.op (.waitDma2 (sem3 cc0_scratch12 k).sem M' saM h' h'') kont) Q) :=
  wait_one m K c n (.aS k) Nat.one_pos rfl h rfl ((credit_a k _).trans (amt_aS k).symm)

end Ops

end Cert.KernelIdeal.Dist
-- ==== Proof.Ideal.Body1.lean ====
/-
# The body, first part: the copies of `x` started, the barrier, the first slot's partial sum sent
-/
module

public import proofs.«01_k».proof.Proof.Ideal.Waits

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-! The codes and scales of each of the three partial sums are computed by the same steps. -/

theorem codes_one (e : Dev nD) : k0_pay5 (k0_pay1 (xv m c e) (wv m c)) (k0_pay2 (xv m c e) (wv m c)) = qv m c e := rfl
theorem scales_one (e : Dev nD) : k0_pay4 (k0_pay2 (xv m c e) (wv m c)) = sv m c e := rfl
theorem codes_two (e : Dev nD) : k0_pay10 (k0_pay6 (xv m c e) (wv m c)) (k0_pay7 (xv m c e) (wv m c)) = qv m c e := rfl
theorem scales_two (e : Dev nD) : k0_pay9 (k0_pay7 (xv m c e) (wv m c)) = sv m c e := rfl
theorem codes_three (e : Dev nD) : k0_pay14 (k0_pay11 (xv m c e) (wv m c)) (k0_pay12 (xv m c e) (wv m c)) = qv m c e := rfl
theorem scales_three (e : Dev nD) : k0_pay13 (xv m c e) (wv m c) = sv m c e := rfl

/-- The first two copies of rows of `x`, the first signal. -/
theorem part1 {Q : _ → sProp 𝕄} :
    iprop((ctx m K ∗ owesN 0 c ∗ xHalf m c 0 ∗ xHalf m c 1 ∗ free (slot xbM 0) c ∗ free (slot xbM 1) c
          ∗ tok c (.xc 0) 0 ∗ tok c (.xc 1) 0 ∗ signal 0 c)
        ∗ (∀ v2 v4 v6 v8 v27, owesN 1 c ∗ crd c (.xc 0) ∗ restX m 0 c (chunk 0 0 c) ∗ crd c (.xc 1) ∗ restX m 1 c (chunk 1 0 c)
          -∗ Q ⟨c, v2, v4, v6, v8, SemArray.scalar (sig.barrier 0 rfl), v27⟩))
      ⊢ run c (k0_part1 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q := by
  rw [k0_part1_eq_skeleton]; unfold k0_part1_skel run
  simp only [semSignalWord, semWaitWord, Prog.lift, Prog.bind_op, Prog.bind_ret, Prog.pure_eq_ret, wp_deviceId]
  iintro ⟨⟨#HC, HO, Hx0, Hx1, Hb0, Hb1, Ht0, Ht1, Hs⟩, Hk⟩
  ihave HI := (ctx_at m K c (.xc 0)) $$ HC
  icases HI with ⟨-, #Hr0⟩
  ihave HI := (ctx_at m K c (.xc 1)) $$ HC
  icases HI with ⟨-, #Hr1⟩
  iapply (wp_copy_x m K c 0 0 (by decide) _ (off_eq1 c)) $$ [Hx0 Hb0 Ht0]
  · iframe # ∗
  iintro ⟨Hc0, Hx0⟩
  iapply (wp_copy_x m K c 1 0 (by decide) _ (off_eq2 c)) $$ [Hx1 Hb1 Ht1]
  · iframe # ∗
  iintro ⟨Hc1, Hx1⟩
  iapply (wp_signal m K c 0 0 rfl _ (congrArg Dev.tc (dev_eq1 c)) _ rfl) $$ [HO Hs]
  · iframe # ∗
  iintro HO
  iapply run_ret
  iapply Hk
  iframe ∗

/-- The other signals, the wait at the barrier, the rows for the device one place after: its partial sum. -/
theorem part2 {Q : _ → sProp 𝕄} (v2 v4 v8 v27 : BitVec 32) :
    iprop((ctx m K ∗ owesN 1 c ∗ signal 1 c ∗ signal 2 c ∗ cred (tallyAt (cell c .bar) () 3) ∗ pos c .bar 0
          ∗ crd c (.xc 0) ∗ pos c (.xc 0) 0 ∗ restX m 0 c (chunk 0 0 c) ∗ pts wM c fullShare (wv m c) ∗ tok c (.xc 0) 1)
        ∗ (owesN 3 c ∗ pos c .bar 1 ∗ pay m c .bar 0 0 ∗ pay m c .bar 0 1 ∗ pay m c .bar 0 2
            ∗ crd c (.xc 0) ∗ pos c (.xc 0) 1 ∗ restX m 0 c (chunk 0 1 c) ∗ pts wM c fullShare (wv m c)
          -∗ Q ⟨k0_pay1 (xv m c (peer 0 c)) (wv m c), k0_pay2 (xv m c (peer 0 c)) (wv m c)⟩))
      ⊢ run c (k0_part2 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v4 v8 (SemArray.scalar (sig.barrier 0 rfl)) v27) Q := by
  rw [k0_part2_eq_skeleton]; unfold k0_part2_skel run
  simp only [semSignalWord, semWaitWord, Prog.lift, Prog.bind_op, Prog.bind_ret, Prog.pure_eq_ret, wp_deviceId]
  iintro ⟨⟨#HC, HO, Hs1, Hs2, HcB, HaB, Hc, Ha, Hx, Hw, Ht⟩, Hk⟩
  iapply (wp_signal m K c 1 1 rfl _ (congrArg Dev.tc (dev_eq2 c)) _ rfl) $$ [HO Hs1]
  · iframe # ∗
  iintro HO
  iapply (wp_signal m K c 2 2 rfl _ (congrArg Dev.tc (dev_eq3 c)) _ rfl) $$ [HO Hs2]
  · iframe # ∗
  iintro HO
  iapply (wp_signals m K c 3 (by decide) _ rfl) $$ [HO HcB HaB]
  · iframe # ∗
  iintro ⟨HO, HaB, Hp0, Hp1, Hp2⟩
  iapply (wait_x m K c 3 0 0 (by decide) (by decide)) $$ [HO Hc Ha Hx]
  · iframe # ∗
  iintro ⟨HO, Ha, #Hr, Hb, Hx⟩
  iapply (wp_load_slot c xbM 0) $$ Hb
  iintro Hb
  iapply (wp_load_w c) $$ Hw
  iintro Hw
  ihave Hb := (holds_free _ _ _) $$ Hb
  iapply (wp_copy_x m K c 0 1 (by decide) _ (off_eq3 c)) $$ [Hx Hb Ht]
  · iframe # ∗
  iintro ⟨Hc, Hx⟩
  rw [show chunk 0 0 c = peer 0 c from rfl]
  iapply run_ret
  iapply Hk
  iframe ∗

/-- The codes and scales of that partial sum stored, the codes sent. -/
theorem part3 {Q : _ → sProp 𝕄} (v4 : BitVec 32) :
    iprop((ctx m K ∗ owesN 3 c ∗ free (slot ssM 0) c ∗ free (slot sqM 0) c ∗ free (slot rqM 0) (peer 0 c)
          ∗ tok c (.qS 0) 0 ∗ tok (peer 0 c) (.qR 0) 0)
        ∗ (owesN 4 c ∗ holds (slot ssM 0) c fullShare (sv m c (peer 0 c)) ∗ crd c (.qS 0) -∗ Q ⟨⟩))
      ⊢ run c (k0_part3 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v4 (k0_pay1 (xv m c (peer 0 c)) (wv m c)) (k0_pay2 (xv m c (peer 0 c)) (wv m c))) Q := by
  rw [k0_part3_eq_skeleton]; unfold k0_part3_skel run
  simp only [semSignalWord, semWaitWord, Prog.lift, Prog.bind_op, Prog.bind_ret, Prog.pure_eq_ret, wp_deviceId]
  rw [codes_one, scales_one]
  iintro ⟨⟨#HC, HO, Hs, Hq, Hf, Ht1, Ht2⟩, Hk⟩
  iapply (wp_load_free c ssM 0) $$ Hs
  iintro %X0 Hs
  iapply (wp_store_slot c ssM 0) $$ Hs
  iintro Hs
  iapply (wp_load_free c sqM 0) $$ Hq
  iintro %X1 Hq
  iapply (wp_store_slot c sqM 0) $$ Hq
  iintro Hq
  iapply (wp_send_q m K c 0 3 rfl _ (dev_eq4 c)) $$ [Hq Hf HO Ht1 Ht2]
  · iframe # ∗
  iintro ⟨Hc, HO⟩
  iapply run_ret
  iapply Hk
  iframe ∗

/-- The scales sent; the partial sum of the device two places after. -/
theorem part4 {Q : _ → sProp 𝕄} (v2 v4 v6 : BitVec 32) :
    iprop((ctx m K ∗ owesN 4 c ∗ holds (slot ssM 0) c fullShare (sv m c (peer 0 c)) ∗ free (slot rsM 0) (peer 0 c)
          ∗ tok c (.sS 0) 0 ∗ tok (peer 0 c) (.sR 0) 0
          ∗ crd c (.xc 1) ∗ pos c (.xc 1) 0 ∗ restX m 1 c (chunk 1 0 c) ∗ pts wM c fullShare (wv m c) ∗ tok c (.xc 1) 1)
        ∗ (owesN 5 c ∗ crd c (.sS 0) ∗ crd c (.xc 1) ∗ pos c (.xc 1) 1 ∗ restX m 1 c (chunk 1 1 c) ∗ pts wM c fullShare (wv m c)
          -∗ Q ⟨k0_pay6 (xv m c (peer 1 c)) (wv m c), k0_pay7 (xv m c (peer 1 c)) (wv m c)⟩))
      ⊢ run c (k0_part4 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v4 v6) Q := by
  rw [k0_part4_eq_skeleton]; unfold k0_part4_skel run
  simp only [semSignalWord, semWaitWord, Prog.lift, Prog.bind_op, Prog.bind_ret, Prog.pure_eq_ret, wp_deviceId]
  iintro ⟨⟨#HC, HO, Hs, Hf, Ht1, Ht2, Hc, Ha, Hx, Hw, Ht⟩, Hk⟩
  iapply (wp_send_s m K c 0 4 rfl _ (dev_eq5 c)) $$ [Hs Hf HO Ht1 Ht2]
  · iframe # ∗
  iintro ⟨Hd, HO⟩
  iapply (wait_x m K c 5 1 0 (by decide) (by decide)) $$ [HO Hc Ha Hx]
  · iframe # ∗
  iintro ⟨HO, Ha, #Hr, Hb, Hx⟩
  iapply (wp_load_slot c xbM 1) $$ Hb
  iintro Hb
  iapply (wp_load_w c) $$ Hw
  iintro Hw
  ihave Hb := (holds_free _ _ _) $$ Hb
  iapply (wp_copy_x m K c 1 1 (by decide) _ (off_eq4 c)) $$ [Hx Hb Ht]
  · iframe # ∗
  iintro ⟨Hc, Hx⟩
  rw [show chunk 1 0 c = peer 1 c from rfl]
  iapply run_ret
  iapply Hk
  iframe ∗

/-- Its codes and scales stored, the codes sent. -/
theorem part5 {Q : _ → sProp 𝕄} (v6 : BitVec 32) :
    iprop((ctx m K ∗ owesN 5 c ∗ free (slot ssM 1) c ∗ free (slot sqM 1) c ∗ free (slot rqM 1) (peer 1 c)
          ∗ tok c (.qS 1) 0 ∗ tok (peer 1 c) (.qR 1) 0)
        ∗ (∀ v, owesN 6 c ∗ holds (slot ssM 1) c fullShare (sv m c (peer 1 c)) ∗ crd c (.qS 1) -∗ Q v))
      ⊢ run c (k0_part5 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v6 (k0_pay6 (xv m c (peer 1 c)) (wv m c)) (k0_pay7 (xv m c (peer 1 c)) (wv m c))) Q := by
  rw [k0_part5_eq_skeleton]; unfold k0_part5_skel run
  simp only [semSignalWord, semWaitWord, Prog.lift, Prog.bind_op, Prog.bind_ret, Prog.pure_eq_ret, wp_deviceId]
  rw [codes_two, scales_two]
  iintro ⟨⟨#HC, HO, Hs, Hq, Hf, Ht1, Ht2⟩, Hk⟩
  iapply (wp_load_free c ssM 1) $$ Hs
  iintro %X0 Hs
  iapply (wp_store_slot c ssM 1) $$ Hs
  iintro Hs
  iapply (wp_load_free c sqM 1) $$ Hq
  iintro %X1 Hq
  iapply (wp_store_slot c sqM 1) $$ Hq
  iintro Hq
  iapply (wp_send_q m K c 1 5 rfl _ (dev_eq6 c)) $$ [Hq Hf HO Ht1 Ht2]
  · iframe # ∗
  iintro ⟨Hc, HO⟩
  iapply run_ret
  iapply Hk
  iframe ∗

/-- The scales sent; the partial sum of the device three places after. -/
theorem part6 {Q : _ → sProp 𝕄} (v6 v8 v9 : BitVec 32) :
    iprop((ctx m K ∗ owesN 6 c ∗ holds (slot ssM 1) c fullShare (sv m c (peer 1 c)) ∗ free (slot rsM 1) (peer 1 c)
          ∗ tok c (.sS 1) 0 ∗ tok (peer 1 c) (.sR 1) 0
          ∗ crd c (.xc 0) ∗ pos c (.xc 0) 1 ∗ restX m 0 c (chunk 0 1 c) ∗ pts wM c fullShare (wv m c) ∗ free (slot ssM 2) c)
        ∗ (owesN 7 c ∗ crd c (.sS 1) ∗ pos c (.xc 0) 2 ∗ free (slot xbM 0) c ∗ xHalf m c 0 ∗ pts wM c fullShare (wv m c) ∗ free (slot ssM 2) c
          -∗ Q ⟨k0_pay11 (xv m c (peer 2 c)) (wv m c), k0_pay12 (xv m c (peer 2 c)) (wv m c), k0_pay13 (xv m c (peer 2 c)) (wv m c)⟩))
      ⊢ run c (k0_part6 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v6 v8 v9) Q := by
  rw [k0_part6_eq_skeleton]; unfold k0_part6_skel run
  simp only [semSignalWord, semWaitWord, Prog.lift, Prog.bind_op, Prog.bind_ret, Prog.pure_eq_ret, wp_deviceId]
  iintro ⟨⟨#HC, HO, Hs, Hf, Ht1, Ht2, Hc, Ha, Hx, Hw, Hz⟩, Hk⟩
  iapply (wp_send_s m K c 1 6 rfl _ (dev_eq7 c)) $$ [Hs Hf HO Ht1 Ht2]
  · iframe # ∗
  iintro ⟨Hd, HO⟩
  iapply (wait_x m K c 7 0 1 (by decide) (by decide)) $$ [HO Hc Ha Hx]
  · iframe # ∗
  iintro ⟨HO, Ha, #Hr, Hb, Hx⟩
  iapply (wp_load_slot c xbM 0) $$ Hb
  iintro Hb
  iapply (wp_load_w c) $$ Hw
  iintro Hw
  iapply (wp_load_free c ssM 2) $$ Hz
  iintro %X0 Hz
  ihave Hb := (holds_free _ _ _) $$ Hb
  rw [show chunk 0 1 c = peer 2 c from rfl]
  iapply run_ret
  iapply Hk
  iframe ∗

/-- Its codes and scales stored, the codes sent. -/
theorem part7 {Q : _ → sProp 𝕄} (v8 : BitVec 32) :
    iprop((ctx m K ∗ owesN 7 c ∗ free (slot ssM 2) c ∗ free (slot sqM 2) c ∗ free (slot rqM 2) (peer 2 c)
          ∗ tok c (.qS 2) 0 ∗ tok (peer 2 c) (.qR 2) 0)
        ∗ (owesN 8 c ∗ holds (slot ssM 2) c fullShare (sv m c (peer 2 c)) ∗ crd c (.qS 2) -∗ Q ⟨⟩))
      ⊢ run c (k0_part7 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v8 (k0_pay11 (xv m c (peer 2 c)) (wv m c)) (k0_pay12 (xv m c (peer 2 c)) (wv m c))
          (k0_pay13 (xv m c (peer 2 c)) (wv m c))) Q := by
  rw [k0_part7_eq_skeleton]; unfold k0_part7_skel run
  simp only [semSignalWord, semWaitWord, Prog.lift, Prog.bind_op, Prog.bind_ret, Prog.pure_eq_ret, wp_deviceId]
  rw [codes_three, scales_three]
  iintro ⟨⟨#HC, HO, Hs, Hq, Hf, Ht1, Ht2⟩, Hk⟩
  iapply (wp_store_slot c ssM 2) $$ Hs
  iintro Hs
  iapply (wp_load_free c sqM 2) $$ Hq
  iintro %X1 Hq
  iapply (wp_store_slot c sqM 2) $$ Hq
  iintro Hq
  iapply (wp_send_q m K c 2 7 rfl _ (dev_eq8 c)) $$ [Hq Hf HO Ht1 Ht2]
  · iframe # ∗
  iintro ⟨Hc, HO⟩
  iapply run_ret
  iapply Hk
  iframe ∗

end Cert.KernelIdeal.Dist
-- ==== Proof.Ideal.Body2.lean ====
/-
# The body, second part: the own partial sum, what the others send, the largest magnitude, the drain
-/
module

public import proofs.«01_k».proof.Proof.Ideal.Body1

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-- The scales sent; the device's own partial sum; the wait for the first codes. -/
theorem part8 {Q : _ → sProp 𝕄} (v2 : BitVec 32) (X : Vec F S1024x2048 .f32) :
    iprop((ctx m K ∗ owesN 8 c ∗ holds (slot ssM 2) c fullShare (sv m c (peer 2 c)) ∗ free (slot rsM 2) (peer 2 c)
          ∗ tok c (.sS 2) 0 ∗ tok (peer 2 c) (.sR 2) 0
          ∗ crd c (.xc 1) ∗ pos c (.xc 1) 1 ∗ restX m 1 c (chunk 1 1 c) ∗ pts wM c fullShare (wv m c) ∗ pts oM c fullShare X
          ∗ crd c (.qR 0) ∗ pos c (.qR 0) 0)
        ∗ (owesN 9 c ∗ crd c (.sS 2) ∗ pos c (.xc 1) 2 ∗ free (slot xbM 1) c ∗ xHalf m c 1 ∗ pts wM c fullShare (wv m c)
            ∗ pts oM c fullShare (own m c) ∗ pos c (.qR 0) 1 ∗ holds (slot rqM 0) c fullShare (qv m (src 0 c) c)
          -∗ Q ⟨⟩))
      ⊢ run c (k0_part8 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2) Q := by
  rw [k0_part8_eq_skeleton]; unfold k0_part8_skel run
  simp only [semSignalWord, semWaitWord, Prog.lift, Prog.bind_op, Prog.bind_ret, Prog.pure_eq_ret, wp_deviceId]
  iintro ⟨⟨#HC, HO, Hs, Hf, Ht1, Ht2, Hc, Ha, Hx, Hw, Ho, Hcq, Haq⟩, Hk⟩
  iapply (wp_send_s m K c 2 8 rfl _ (dev_eq9 c)) $$ [Hs Hf HO Ht1 Ht2]
  · iframe # ∗
  iintro ⟨Hd, HO⟩
  iapply (wait_x m K c 9 1 1 (by decide) (by decide)) $$ [HO Hc Ha Hx]
  · iframe # ∗
  iintro ⟨HO, Ha, #Hr, Hb, Hx⟩
  iapply (wp_load_slot c xbM 1) $$ Hb
  iintro Hb
  iapply (wp_load_w c) $$ Hw
  iintro Hw
  iapply (wp_load_o c) $$ Ho
  iintro Ho
  iapply (wp_store_o c) $$ Ho
  iintro Ho
  rw [chunk_own c, show k0_pay15 (xv m c c) (wv m c) = own m c from rfl]
  iapply (wait_qR m K c 9 0 (by decide)) $$ [HO Hcq Haq]
  · iframe # ∗
  iintro ⟨HO, Haq, Hq⟩
  ihave Hb := (holds_free _ _ _) $$ Hb
  iapply run_ret
  iapply Hk
  iframe ∗

/-- Slot 0 added, the wait for the codes of slot 1. -/
theorem part9 {Q : _ → sProp 𝕄} (v2 : BitVec 32) :
    iprop((ctx m K ∗ owesN 9 c ∗ crd c (.sR 0) ∗ pos c (.sR 0) 0 ∗ holds (slot rqM 0) c fullShare (qv m (src 0 c) c)
          ∗ pts oM c fullShare (own m c) ∗ crd c (.qR 1) ∗ pos c (.qR 1) 0)
        ∗ (∀ v, owesN 9 c ∗ pos c (.sR 0) 1 ∗ free (slot rqM 0) c ∗ free (slot rsM 0) c ∗ pts oM c fullShare (out1 m c)
            ∗ pos c (.qR 1) 1 ∗ holds (slot rqM 1) c fullShare (qv m (src 1 c) c) -∗ Q v))
      ⊢ run c (k0_part9 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v2) Q := by
  rw [k0_part9_eq_skeleton]; unfold k0_part9_skel run
  simp only [semSignalWord, semWaitWord, Prog.lift, Prog.bind_op, Prog.bind_ret, Prog.pure_eq_ret, wp_deviceId]
  iintro ⟨⟨#HC, HO, Hcs, Has, Hq, Ho, Hcq, Haq⟩, Hk⟩
  iapply (wait_sR m K c 9 0 (by decide)) $$ [HO Hcs Has]
  · iframe # ∗
  iintro ⟨HO, Has, Hs⟩
  iapply (wp_load_slot c rqM 0) $$ Hq
  iintro Hq
  iapply (wp_load_slot c rsM 0) $$ Hs
  iintro Hs
  iapply (wp_load_o c) $$ Ho
  iintro Ho
  iapply (wp_load_o c) $$ Ho
  iintro Ho
  iapply (wp_store_o c) $$ Ho
  iintro Ho
  rw [show k0_pay16 (qv m (src 0 c) c) (sv m (src 0 c) c) (own m c) = out1 m c from rfl]
  iapply (wait_qR m K c 9 1 (by decide)) $$ [HO Hcq Haq]
  · iframe # ∗
  iintro ⟨HO, Haq, Hq'⟩
  ihave Hq := (holds_free _ _ _) $$ Hq
  ihave Hs := (holds_free _ _ _) $$ Hs
  iapply run_ret
  iapply Hk
  iframe ∗

/-- Slot 1 added, the wait for the codes of slot 2. -/
theorem part10 {Q : _ → sProp 𝕄} (v2 v272 : BitVec 32) :
    iprop((ctx m K ∗ owesN 9 c ∗ crd c (.sR 1) ∗ pos c (.sR 1) 0 ∗ holds (slot rqM 1) c fullShare (qv m (src 1 c) c)
          ∗ pts oM c fullShare (out1 m c) ∗ crd c (.qR 2) ∗ pos c (.qR 2) 0)
        ∗ (owesN 9 c ∗ pos c (.sR 1) 1 ∗ free (slot rqM 1) c ∗ free (slot rsM 1) c ∗ pts oM c fullShare (out2 m c)
            ∗ pos c (.qR 2) 1 ∗ holds (slot rqM 2) c fullShare (qv m (src 2 c) c) -∗ Q ⟨⟩))
      ⊢ run c (k0_part10 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v2 v272) Q := by
  rw [k0_part10_eq_skeleton]; unfold k0_part10_skel run
  simp only [semSignalWord, semWaitWord, Prog.lift, Prog.bind_op, Prog.bind_ret, Prog.pure_eq_ret, wp_deviceId]
  iintro ⟨⟨#HC, HO, Hcs, Has, Hq, Ho, Hcq, Haq⟩, Hk⟩
  iapply (wait_sR m K c 9 1 (by decide)) $$ [HO Hcs Has]
  · iframe # ∗
  iintro ⟨HO, Has, Hs⟩
  iapply (wp_load_slot c rqM 1) $$ Hq
  iintro Hq
  iapply (wp_load_slot c rsM 1) $$ Hs
  iintro Hs
  iapply (wp_load_o c) $$ Ho
  iintro Ho
  iapply (wp_load_o c) $$ Ho
  iintro Ho
  iapply (wp_store_o c) $$ Ho
  iintro Ho
  rw [show k0_pay17 (qv m (src 1 c) c) (sv m (src 1 c) c) (out1 m c) = out2 m c from rfl]
  iapply (wait_qR m K c 9 2 (by decide)) $$ [HO Hcq Haq]
  · iframe # ∗
  iintro ⟨HO, Haq, Hq'⟩
  ihave Hq := (holds_free _ _ _) $$ Hq
  ihave Hs := (holds_free _ _ _) $$ Hs
  iapply run_ret
  iapply Hk
  iframe ∗

/-- Slot 2 added, the largest magnitude stored. -/
theorem part11 {Q : _ → sProp 𝕄} (v2 : BitVec 32) (X : Vec F S8x128 .f32) :
    iprop((ctx m K ∗ owesN 9 c ∗ crd c (.sR 2) ∗ pos c (.sR 2) 0 ∗ holds (slot rqM 2) c fullShare (qv m (src 2 c) c)
          ∗ pts oM c fullShare (out2 m c) ∗ pts saM c fullShare X)
        ∗ (owesN 9 c ∗ pos c (.sR 2) 1 ∗ free (slot rqM 2) c ∗ free (slot rsM 2) c ∗ pts oM c fullShare (out3 m c)
            ∗ pts saM c fullShare (amax m c) -∗ Q (k0_pay19 (out3 m c))))
      ⊢ run c (k0_part11 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v2) Q := by
  rw [k0_part11_eq_skeleton]; unfold k0_part11_skel run
  simp only [semSignalWord, semWaitWord, Prog.lift, Prog.bind_op, Prog.bind_ret, Prog.pure_eq_ret, wp_deviceId]
  iintro ⟨⟨#HC, HO, Hcs, Has, Hq, Ho, Hm⟩, Hk⟩
  iapply (wait_sR m K c 9 2 (by decide)) $$ [HO Hcs Has]
  · iframe # ∗
  iintro ⟨HO, Has, Hs⟩
  iapply (wp_load_slot c rqM 2) $$ Hq
  iintro Hq
  iapply (wp_load_slot c rsM 2) $$ Hs
  iintro Hs
  iapply (wp_load_o c) $$ Ho
  iintro Ho
  iapply (wp_load_o c) $$ Ho
  iintro Ho
  iapply (wp_store_o c) $$ Ho
  iintro Ho
  rw [show k0_pay18 (qv m (src 2 c) c) (sv m (src 2 c) c) (out2 m c) = out3 m c from rfl]
  iapply (wp_load_o c) $$ Ho
  iintro Ho
  iapply (wp_load_sa c) $$ Hm
  iintro Hm
  iapply (wp_store_sa c) $$ Hm
  iintro Hm
  rw [show k0_pay20 (out3 m c) = amax m c from rfl]
  ihave Hq := (holds_free _ _ _) $$ Hq
  ihave Hs := (holds_free _ _ _) $$ Hs
  iapply run_ret
  iapply Hk
  iframe ∗

/-- The largest magnitude sent to the three others. -/
theorem part12 {Q : _ → sProp 𝕄} (v2 : BitVec 32) :
    iprop((ctx m K ∗ owesN 9 c ∗ pts saM c fullShare (amax m c) ∗ free (slot raM 0) (peer 0 c) ∗ free (slot raM 1) (peer 1 c)
          ∗ free (slot raM 2) (peer 2 c) ∗ tok c (.aS 0) 0 ∗ tok (peer 0 c) (.aR 0) 0 ∗ tok c (.aS 1) 0 ∗ tok (peer 1 c) (.aR 1) 0
          ∗ tok c (.aS 2) 0 ∗ tok (peer 2 c) (.aR 2) 0)
        ∗ (owesN 12 c ∗ crd c (.aS 0) ∗ crd c (.aS 1) ∗ crd c (.aS 2) -∗ Q ⟨⟩))
      ⊢ run c (k0_part12 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2) Q := by
  rw [k0_part12_eq_skeleton]; unfold k0_part12_skel run
  simp only [semSignalWord, semWaitWord, Prog.lift, Prog.bind_op, Prog.bind_ret, Prog.pure_eq_ret, wp_deviceId]
  iintro ⟨⟨#HC, HO, Hm, Hf0, Hf1, Hf2, Ht0, Hu0, Ht1, Hu1, Ht2, Hu2⟩, Hk⟩
  ihave Hm := (pointsTo_share (PosShare.mem_left_op_right fullShare)).1 $$ Hm
  icases Hm with ⟨Hm0, Hm⟩
  ihave Hm := (pointsTo_share (PosShare.mem_left_op_right fullShare.right)).1 $$ Hm
  icases Hm with ⟨Hm1, Hm2⟩
  iapply (wp_send_a m K c 0 9 rfl _ (dev_eq10 c)) $$ [Hm0 Hf0 HO Ht0 Hu0]
  · isplitr; · iexact HC
    isplitl [Hm0]; · iexact Hm0
    iframe ∗
  iintro ⟨Hc0, HO⟩
  iapply (wp_send_a m K c 1 10 rfl _ (dev_eq11 c)) $$ [Hm1 Hf1 HO Ht1 Hu1]
  · isplitr; · iexact HC
    isplitl [Hm1]; · iexact Hm1
    iframe ∗
  iintro ⟨Hc1, HO⟩
  iapply (wp_send_a m K c 2 11 rfl _ (dev_eq12 c)) $$ [Hm2 Hf2 HO Ht2 Hu2]
  · isplitr; · iexact HC
    isplitl [Hm2]; · iexact Hm2
    iframe ∗
  iintro ⟨Hc2, HO⟩
  iapply run_ret
  iapply Hk
  iframe ∗

/-- The magnitudes of slots 0 and 1. -/
theorem part13 {Q : _ → sProp 𝕄} (v2 : BitVec 32) :
    iprop((ctx m K ∗ owesN 12 c ∗ crd c (.aR 0) ∗ pos c (.aR 0) 0 ∗ crd c (.aR 1) ∗ pos c (.aR 1) 0)
        ∗ (owesN 12 c ∗ pos c (.aR 0) 1 ∗ pos c (.aR 1) 1 ∗ holds (raS 0) c fullShare (amax m (src 0 c))
            ∗ holds (raS 1) c fullShare (amax m (src 1 c))
          -∗ Q (k0_pay21 (k0_pay19 (out3 m c)) (amax1 m (src 0 c)) (amax1 m (src 1 c)))))
      ⊢ run c (k0_part13 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v2 (k0_pay19 (out3 m c))) Q := by
  rw [k0_part13_eq_skeleton]; unfold k0_part13_skel run
  simp only [semSignalWord, semWaitWord, Prog.lift, Prog.bind_op, Prog.bind_ret, Prog.pure_eq_ret, wp_deviceId]
  iintro ⟨⟨#HC, HO, Hc0, Ha0, Hc1, Ha1⟩, Hk⟩
  iapply (wait_aR m K c 12 0 (by decide)) $$ [HO Hc0 Ha0]
  · iframe # ∗
  iintro ⟨HO, Ha0, H0⟩
  iapply (wp_load_ra m c 0) $$ H0
  iintro H0
  iapply (wait_aR m K c 12 1 (by decide)) $$ [HO Hc1 Ha1]
  · iframe # ∗
  iintro ⟨HO, Ha1, H1⟩
  iapply (wp_load_ra m c 1) $$ H1
  iintro H1
  iapply run_ret
  iapply Hk
  iframe ∗

/-- The magnitude of slot 2, the block written back; the first of the drain. -/
theorem part14 {Q : _ → sProp 𝕄} :
    iprop((ctx m K ∗ owesN 12 c ∗ crd c (.aR 2) ∗ pos c (.aR 2) 0 ∗ pts oM c fullShare (out3 m c) ∗ crd c (.qS 0) ∗ pos c (.qS 0) 0)
        ∗ (owesN 12 c ∗ pos c (.aR 2) 1 ∗ holds (raS 2) c fullShare (amax m (src 2 c)) ∗ pts oM c fullShare (outF m c)
            ∗ pos c (.qS 0) 1 ∗ free (slot sqM 0) c -∗ Q ⟨⟩))
      ⊢ run c (k0_part14 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 (k0_pay21 (k0_pay19 (out3 m c)) (amax1 m (src 0 c)) (amax1 m (src 1 c)))) Q := by
  rw [k0_part14_eq_skeleton]; unfold k0_part14_skel run
  simp only [semSignalWord, semWaitWord, Prog.lift, Prog.bind_op, Prog.bind_ret, Prog.pure_eq_ret, wp_deviceId]
  iintro ⟨⟨#HC, HO, Hc2, Ha2, Ho, Hcq, Haq⟩, Hk⟩
  iapply (wait_aR m K c 12 2 (by decide)) $$ [HO Hc2 Ha2]
  · iframe # ∗
  iintro ⟨HO, Ha2, H2⟩
  iapply (wp_load_ra m c 2) $$ H2
  iintro H2
  iapply (wp_load_o c) $$ Ho
  iintro Ho
  iapply (wp_load_o c) $$ Ho
  iintro Ho
  iapply (wp_store_o c) $$ Ho
  iintro Ho
  rw [show k0_pay22 (k0_pay21 (k0_pay19 (out3 m c)) (amax1 m (src 0 c)) (amax1 m (src 1 c))) (amax1 m (src 2 c)) (out3 m c) = outF m c from rfl]
  iapply (wait_qS m K c 12 0 (by decide)) $$ [HO Hcq Haq]
  · iframe # ∗
  iintro ⟨HO, Haq, Hq⟩
  ihave Hq := (holds_free _ _ _) $$ Hq
  iapply run_ret
  iapply Hk
  iframe ∗

/-- More of the drain. -/
theorem part15 {Q : _ → sProp 𝕄} :
    iprop((ctx m K ∗ owesN 12 c ∗ crd c (.sS 0) ∗ pos c (.sS 0) 0 ∗ crd c (.aS 0) ∗ pos c (.aS 0) 0 ∗ crd c (.qS 1) ∗ pos c (.qS 1) 0
          ∗ crd c (.sS 1) ∗ pos c (.sS 1) 0 ∗ crd c (.aS 1) ∗ pos c (.aS 1) 0)
        ∗ (owesN 12 c ∗ pos c (.sS 0) 1 ∗ free (slot ssM 0) c ∗ pos c (.aS 0) 1 ∗ pts saM c (thirdA 0) (amax m c)
            ∗ pos c (.qS 1) 1 ∗ free (slot sqM 1) c ∗ pos c (.sS 1) 1 ∗ free (slot ssM 1) c ∗ pos c (.aS 1) 1
            ∗ pts saM c (thirdA 1) (amax m c) -∗ Q ⟨⟩))
      ⊢ run c (k0_part15 (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q := by
  rw [k0_part15_eq_skeleton]; unfold k0_part15_skel run
  simp only [semSignalWord, semWaitWord, Prog.lift, Prog.bind_op, Prog.bind_ret, Prog.pure_eq_ret, wp_deviceId]
  iintro ⟨⟨#HC, HO, Hc0, Ha0, Hc1, Ha1, Hc2, Ha2, Hc3, Ha3, Hc4, Ha4⟩, Hk⟩
  iapply (wait_sS m K c 12 0 (by decide)) $$ [HO Hc0 Ha0]
  · iframe # ∗
  iintro ⟨HO, Ha0, H0⟩
  iapply (wait_aS m K c 12 0 (by decide)) $$ [HO Hc1 Ha1]
  · iframe # ∗
  iintro ⟨HO, Ha1, H1⟩
  iapply (wait_qS m K c 12 1 (by decide)) $$ [HO Hc2 Ha2]
  · iframe # ∗
  iintro ⟨HO, Ha2, H2⟩
  iapply (wait_sS m K c 12 1 (by decide)) $$ [HO Hc3 Ha3]
  · iframe # ∗
  iintro ⟨HO, Ha3, H3⟩
  iapply (wait_aS m K c 12 1 (by decide)) $$ [HO Hc4 Ha4]
  · iframe # ∗
  iintro ⟨HO, Ha4, H4⟩
  ihave H0 := (holds_free _ _ _) $$ H0
  ihave H2 := (holds_free _ _ _) $$ H2
  ihave H3 := (holds_free _ _ _) $$ H3
  iapply run_ret
  iapply Hk
  iframe ∗

end Cert.KernelIdeal.Dist
-- ==== Proof.Ideal.Body3.lean ====
/-
# The body, whole
-/
module

public import proofs.«01_k».proof.Proof.Ideal.Body2

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-- Over the roles, one by one. -/
theorem roles_sep (P : Role → sProp 𝕄) : bigSep Finset.univ P
    = iprop(P .bar ∗ P (.xc 0) ∗ P (.xc 1) ∗ P (.qS 0) ∗ P (.qS 1) ∗ P (.qS 2) ∗ P (.qR 0) ∗ P (.qR 1) ∗ P (.qR 2) ∗ P (.sS 0) ∗ P (.sS 1) ∗ P (.sS 2) ∗ P (.sR 0) ∗ P (.sR 1) ∗ P (.sR 2) ∗ P (.aS 0) ∗ P (.aS 1) ∗ P (.aS 2) ∗ P (.aR 0) ∗ P (.aR 1) ∗ P (.aR 2)) :=
  bigSep_univ_eq_bigSepL roles roles_univ roles_nodup P

/-- The three slots of a stack. -/
abbrev three (P : Fin 3 → sProp 𝕄) : sProp 𝕄 := iprop(P 0 ∗ P 1 ∗ P 2)

/-- The buffers the body works in, at any contents. -/
def arena (c : Dev nD) : sProp 𝕄 :=
  iprop((free (slot xbM 0) c ∗ free (slot xbM 1) c) ∗ three (fun k => free (slot sqM k) c) ∗ three (fun k => free (slot ssM k) c)
    ∗ three (fun k => free (slot rqM k) c) ∗ three (fun k => free (slot rsM k) c) ∗ three (fun k => free (slot raM k) c)
    ∗ ∃ X, pts saM c fullShare X)

/-- The rights to pay that device `c` starts with, -/
def rights (c : Dev nD) : sProp 𝕄 :=
  iprop(three (fun j => dutyTok ER (cell (peer j c) .bar) 0 j.rev)
    ∗ ((tok c (.xc 0) 0 ∗ tok c (.xc 0) 1) ∗ (tok c (.xc 1) 0 ∗ tok c (.xc 1) 1))
    ∗ three (fun k => tok c (.qS k) 0) ∗ three (fun k => tok c (.sS k) 0) ∗ three (fun k => tok c (.aS k) 0)
    ∗ three (fun k => tok (peer k c) (.qR k) 0) ∗ three (fun k => tok (peer k c) (.sR k) 0) ∗ three (fun k => tok (peer k c) (.aR k) 0))

/-- and the credit: of its barrier and of what the others send it. -/
def credits (c : Dev nD) : sProp 𝕄 :=
  iprop(cred (tallyAt (cell c .bar) () 3) ∗ three (fun k => crd c (.qR k)) ∗ three (fun k => crd c (.sR k)) ∗ three (fun k => crd c (.aR k)))

/-- The received magnitude's slot, given back. -/
theorem free_ra (k : Fin 3) (X : Vec F S8x128 .f32) : holds (raS k) c fullShare X ⊢ (free (slot raM k) c : sProp 𝕄) := by
  unfold holds free
  iintro ⟨%f, -, H⟩
  iexists f
  iapply (Entails.of_eq (pts_squeeze (slot raM k) squeezes_S1x8x128_S8x128 c fullShare f)) $$ H

theorem whole_sa : iprop(pts saM c (thirdA 0) (amax m c) ∗ pts saM c (thirdA 1) (amax m c) ∗ pts saM c (thirdA 2) (amax m c))
    ⊢ (pts saM c fullShare (amax m c) : sProp 𝕄) := by
  iintro ⟨H0, H1, H2⟩
  ihave H := (pointsTo_share (PosShare.mem_left_op_right fullShare.right)).2 $$ [H1 H2]
  · isplitl [H1]; · iexact H1
    iexact H2
  iapply (pointsTo_share (PosShare.mem_left_op_right fullShare)).2
  isplitl [H0]; · iexact H0
  iexact H

/-- The body, from what the launch gives it to the result, every buffer its own again and every semaphore waited for. -/
theorem body {Q : PUnit → sProp 𝕄} (X : Vec F S1024x2048 .f32) :
    iprop((ctx m K ∗ owesN 0 c ∗ xHalf m c 0 ∗ xHalf m c 1 ∗ arena c ∗ rights c ∗ credits c ∗ bigSep Finset.univ (fun ρ => pos c ρ 0)
          ∗ pts wM c fullShare (wv m c) ∗ pts oM c fullShare X)
        ∗ (owesN 12 c ∗ xHalf m c 0 ∗ xHalf m c 1 ∗ arena c ∗ bigSep Finset.univ (fun ρ => pos c ρ (rounds ρ))
            ∗ pts wM c fullShare (wv m c) ∗ pts oM c fullShare (outF m c) -∗ Q ⟨⟩))
      ⊢ run c (cc0_body (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q := by
  rw [cc0_body_eq_skeleton]; unfold cc0_body_skel run
  simp only [wp_bind, roles_sep]
  unfold arena rights credits
  iintro ⟨⟨#HC, HO, Hx0, Hx1, ⟨⟨Hb0, Hb1⟩, ⟨Hsq0, Hsq1, Hsq2⟩, ⟨Hss0, Hss1, Hss2⟩, ⟨Hrq0, Hrq1, Hrq2⟩, ⟨Hrs0, Hrs1, Hrs2⟩, ⟨Hra0, Hra1, Hra2⟩, ⟨%Xa, Hsa⟩⟩,
    ⟨⟨Hj0, Hj1, Hj2⟩, ⟨⟨Ht00, Ht01⟩, ⟨Ht10, Ht11⟩⟩, ⟨Hu0, Hu1, Hu2⟩, ⟨Hv0, Hv1, Hv2⟩, ⟨Hw0, Hw1, Hw2⟩, ⟨Hx0', Hx1', Hx2'⟩, ⟨Hy0, Hy1, Hy2⟩, ⟨Hz0, Hz1, Hz2⟩⟩,
    ⟨HcB, ⟨Hcq0, Hcq1, Hcq2⟩, ⟨Hcs0, Hcs1, Hcs2⟩, ⟨Hca0, Hca1, Hca2⟩⟩,
    ⟨HpB, Hpx0, Hpx1, HpQ0, HpQ1, HpQ2, Hpq0, Hpq1, Hpq2, HpS0, HpS1, HpS2, Hps0, Hps1, Hps2, HpA0, HpA1, HpA2, Hpa0, Hpa1, Hpa2⟩, Hw, Ho⟩, Hk⟩
  iapply (part1 m K c)
  isplitl [HO Hx0 Hx1 Hb0 Hb1 Ht00 Ht10 Hj0 Hrq2 Hrs2 Hra2]
  · isplitr; · iexact HC
    isplitl [HO]; · iexact HO
    isplitl [Hx0]; · iexact Hx0
    isplitl [Hx1]; · iexact Hx1
    isplitl [Hb0]; · iexact Hb0
    isplitl [Hb1]; · iexact Hb1
    isplitl [Ht00]; · iexact Ht00
    isplitl [Ht10]; · iexact Ht10
    unfold signal
    isplitl [Hj0]; · iexact Hj0
    isplitl [Hrq2]; · iexact Hrq2
    isplitl [Hrs2]; · iexact Hrs2
    iexact Hra2
  iintro %v2 %v4 %v6 %v8 %v27 ⟨HO, Hcx0, Hx0, Hcx1, Hx1⟩
  iapply (part2 m K c)
  isplitl [HO Hj1 Hrq1 Hrs1 Hra1 Hj2 Hrq0 Hrs0 Hra0 HcB HpB Hcx0 Hpx0 Hx0 Hw Ht01]
  · isplitr; · iexact HC
    isplitl [HO]; · iexact HO
    isplitl [Hj1 Hrq1 Hrs1 Hra1]
    · unfold signal
      isplitl [Hj1]; · iexact Hj1
      isplitl [Hrq1]; · iexact Hrq1
      isplitl [Hrs1]; · iexact Hrs1
      iexact Hra1
    isplitl [Hj2 Hrq0 Hrs0 Hra0]
    · unfold signal
      isplitl [Hj2]; · iexact Hj2
      isplitl [Hrq0]; · iexact Hrq0
      isplitl [Hrs0]; · iexact Hrs0
      iexact Hra0
    iframe ∗
  iintro ⟨HO, HpB, Hg0, Hg1, Hg2, Hcx0, Hpx0, Hx0, Hw⟩
  ihave Hg0 := (Entails.of_eq (pay_bar m c 0 0)) $$ Hg0
  ihave Hg1 := (Entails.of_eq (pay_bar m c 0 1)) $$ Hg1
  ihave Hg2 := (Entails.of_eq (pay_bar m c 0 2)) $$ Hg2
  icases Hg0 with ⟨Hrq0, Hrs0, Hra0⟩
  icases Hg1 with ⟨Hrq1, Hrs1, Hra1⟩
  icases Hg2 with ⟨Hrq2, Hrs2, Hra2⟩
  iapply (part3 m K c)
  isplitl [HO Hss0 Hsq0 Hrq0 Hu0 Hx0']
  · iframe # ∗
  iintro ⟨HO, Hss0, HcQ0⟩
  iapply (part4 m K c)
  isplitl [HO Hss0 Hrs0 Hv0 Hy0 Hcx1 Hpx1 Hx1 Hw Ht11]
  · iframe # ∗
  iintro ⟨HO, HcS0, Hcx1, Hpx1, Hx1, Hw⟩
  iapply (part5 m K c)
  isplitl [HO Hss1 Hsq1 Hrq1 Hu1 Hx1']
  · iframe # ∗
  iintro %v9 ⟨HO, Hss1, HcQ1⟩
  iapply (part6 m K c)
  isplitl [HO Hss1 Hrs1 Hv1 Hy1 Hcx0 Hpx0 Hx0 Hw Hss2]
  · iframe # ∗
  iintro ⟨HO, HcS1, Hpx0, Hb0, Hx0, Hw, Hss2⟩
  iapply (part7 m K c)
  isplitl [HO Hss2 Hsq2 Hrq2 Hu2 Hx2']
  · iframe # ∗
  iintro ⟨HO, Hss2, HcQ2⟩
  iapply (part8 m K c)
  isplitl [HO Hss2 Hrs2 Hv2 Hy2 Hcx1 Hpx1 Hx1 Hw Ho Hcq0 Hpq0]
  · iframe # ∗
  iintro ⟨HO, HcS2, Hpx1, Hb1, Hx1, Hw, Ho, Hpq0, Hrq0⟩
  iapply (part9 m K c)
  isplitl [HO Hcs0 Hps0 Hrq0 Ho Hcq1 Hpq1]
  · iframe # ∗
  iintro %v272 ⟨HO, Hps0, Hrq0, Hrs0, Ho, Hpq1, Hrq1⟩
  iapply (part10 m K c)
  isplitl [HO Hcs1 Hps1 Hrq1 Ho Hcq2 Hpq2]
  · iframe # ∗
  iintro ⟨HO, Hps1, Hrq1, Hrs1, Ho, Hpq2, Hrq2⟩
  iapply (part11 m K c)
  isplitl [HO Hcs2 Hps2 Hrq2 Ho Hsa]
  · iframe # ∗
  iintro ⟨HO, Hps2, Hrq2, Hrs2, Ho, Hsa⟩
  iapply (part12 m K c)
  isplitl [HO Hsa Hra0 Hra1 Hra2 Hw0 Hz0 Hw1 Hz1 Hw2 Hz2]
  · iframe # ∗
  iintro ⟨HO, HcA0, HcA1, HcA2⟩
  iapply (part13 m K c)
  isplitl [HO Hca0 Hpa0 Hca1 Hpa1]
  · iframe # ∗
  iintro ⟨HO, Hpa0, Hpa1, Hra0, Hra1⟩
  iapply (part14 m K c)
  isplitl [HO Hca2 Hpa2 Ho HcQ0 HpQ0]
  · iframe # ∗
  iintro ⟨HO, Hpa2, Hra2, Ho, HpQ0, Hsq0⟩
  iapply (part15 m K c)
  isplitl [HO HcS0 HpS0 HcA0 HpA0 HcQ1 HpQ1 HcS1 HpS1 HcA1 HpA1]
  · iframe # ∗
  iintro ⟨HO, HpS0, Hss0, HpA0, Hsa0, HpQ1, Hsq1, HpS1, Hss1, HpA1, Hsa1⟩
  simp only [Prog.lift, Prog.pure_eq_ret]
  iapply (wait_qS m K c 12 2 (by decide)) $$ [HO HcQ2 HpQ2]
  · iframe # ∗
  iintro ⟨HO, HpQ2, Hsq2⟩
  iapply run_ret
  iapply (wait_sS m K c 12 2 (by decide)) $$ [HO HcS2 HpS2]
  · iframe # ∗
  iintro ⟨HO, HpS2, Hss2⟩
  iapply run_ret
  iapply (wait_aS m K c 12 2 (by decide)) $$ [HO HcA2 HpA2]
  · iframe # ∗
  iintro ⟨HO, HpA2, Hsa2⟩
  ihave Hsq2 := (holds_free _ _ _) $$ Hsq2
  ihave Hss2 := (holds_free _ _ _) $$ Hss2
  ihave Hra0 := (free_ra c 0 _) $$ Hra0
  ihave Hra1 := (free_ra c 1 _) $$ Hra1
  ihave Hra2 := (free_ra c 2 _) $$ Hra2
  ihave Hsa := (whole_sa m c) $$ [Hsa0 Hsa1 Hsa2]
  · iframe ∗
  iapply run_ret
  iapply run_ret
  iapply Hk
  isplitl [HO]; · iexact HO
  isplitl [Hx0]; · iexact Hx0
  isplitl [Hx1]; · iexact Hx1
  isplitl [Hb0 Hb1 Hsq0 Hsq1 Hsq2 Hss0 Hss1 Hss2 Hrq0 Hrq1 Hrq2 Hrs0 Hrs1 Hrs2 Hra0 Hra1 Hra2 Hsa]
  · iframe Hb0 Hb1 Hsq0 Hsq1 Hsq2 Hss0 Hss1 Hss2 Hrq0 Hrq1 Hrq2 Hrs0 Hrs1 Hrs2 Hra0 Hra1 Hra2
    iexists _; iexact Hsa
  isplitl [HpB Hpx0 Hpx1 HpQ0 HpQ1 HpQ2 HpS0 HpS1 HpS2 HpA0 HpA1 HpA2 Hpq0 Hpq1 Hpq2 Hps0 Hps1 Hps2 Hpa0 Hpa1 Hpa2]
  · simp only [rounds]
    iframe ∗
  isplitl [Hw]; · iexact Hw
  iexact Ho

end Cert.KernelIdeal.Dist
-- ==== Proof.Ideal.Slots.lean ====
/-
# Whole buffers as their slots
-/
module

public import proofs.«01_k».proof.Proof.Ideal.Body3

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-- The elements of a stack are those of its slots, -/
theorem slots_cover {sp : Space} {e : EltTy} {n a b : ℕ} (M : Memref sig .tc sp ⟨3, ![n, a, b]⟩ e) :
    (Finset.univ.biUnion fun k : Fin n => (slot M k).view.set) = M.view.set := by
  ext i
  simp only [Finset.mem_biUnion, Finset.mem_univ, true_and]
  constructor
  · rintro ⟨k, hk⟩
    exact View.set_slice_subset _ _ hk
  · intro hi
    obtain ⟨j, -, rfl⟩ := Finset.mem_map.mp hi
    refine ⟨j 0, ?_⟩
    rw [show (slot M (j 0)).view.set = (slotRect a b (j 0)).set.map M.view.emb from View.set_slice _ _]
    refine Finset.mem_map_of_mem _ (Rect.mem_set_unit.mpr fun i => ?_)
    match i with
    | 0 => exact ⟨le_rfl, Nat.lt_succ_self _⟩
    | 1 => exact ⟨Nat.zero_le _, (j 1).isLt.trans_eq (Nat.zero_add _).symm⟩
    | 2 => exact ⟨Nat.zero_le _, (j 2).isLt.trans_eq (Nat.zero_add _).symm⟩

/-- and two slots share none. -/
theorem slots_disjoint {sp : Space} {e : EltTy} {n a b : ℕ} (M : Memref sig .tc sp ⟨3, ![n, a, b]⟩ e) (k k' : Fin n) (h : k ≠ k') :
    Disjoint (slot M k).view.set (slot M k').view.set := by
  rw [show (slot M k).view.set = (slotRect a b k).set.map M.view.emb from View.set_slice _ _,
    show (slot M k').view.set = (slotRect a b k').set.map M.view.emb from View.set_slice _ _, Finset.disjoint_map, Finset.disjoint_left]
  intro i hi hi'
  have h1 : k.val ≤ (i 0).val ∧ (i 0).val < k.val + 1 := Rect.mem_set_unit.mp hi 0
  have h2 : k'.val ≤ (i 0).val ∧ (i 0).val < k'.val + 1 := Rect.mem_set_unit.mp hi' 0
  exact h (Fin.ext (by omega))

theorem split_slots {sp : Space} {e : EltTy} {n a b : ℕ} (M : Memref sig .tc sp ⟨3, ![n, a, b]⟩ e) (f : Buf (Elt F) (M.view.loc (c : Thread nD τ))) :
    pts M c fullShare f ⊢ (bigSep Finset.univ fun k : Fin n => free (slot M k) c : sProp 𝕄) := by
  unfold pts
  rw [← slots_cover M, pointsTo_biUnion Finset.univ _ fun k _ k' _ h => slots_disjoint M k k' h]
  refine bigSep_mono fun k _ => ?_
  show (pts (slot M k) c fullShare f : sProp 𝕄) ⊢ free (slot M k) c
  unfold free
  iintro H
  iexists f
  iexact H

theorem join_slots {sp : Space} {e : EltTy} {n a b : ℕ} [NeZero n] (M : Memref sig .tc sp ⟨3, ![n, a, b]⟩ e) :
    (bigSep Finset.univ fun k : Fin n => free (slot M k) c : sProp 𝕄) ⊢ iprop(∃ f, pts M c fullShare f) := by
  unfold free
  iintro H
  ihave H := (BI.bigSep_exists_pi Finset.univ (fun (k : Fin n) (f : Buf (Elt F) (M.view.loc (c : Thread nD τ))) => (pts (slot M k) c fullShare f : sProp 𝕄))) $$ H
  icases H with ⟨%fs, H⟩
  ihave H := (pointsTo_biUnion_join Finset.univ (fun k : Fin n => (slot M k).view.set) fs (fs 0) fun k _ k' _ h => slots_disjoint M k k' h) $$ H
  icases H with ⟨%g, -, H⟩
  iexists g
  iapply (Entails.of_eq (congrArg (fun S => (M.view.loc (c : Thread nD τ) ↦[S]{fullShare} g : sProp 𝕄)) (slots_cover M))) $$ H

theorem fin2_sep (P : Fin 2 → sProp 𝕄) : bigSep Finset.univ P = iprop(P 0 ∗ P 1) := bigSep_univ_eq_bigSepL [0, 1] (by decide) (by decide) P
theorem fin3_sep (P : Fin 3 → sProp 𝕄) : bigSep Finset.univ P = three P := bigSep_univ_eq_bigSepL [0, 1, 2] (by decide) (by decide) P

/-- A whole buffer, by its memref. -/
theorem pts_whole (b : Ref sig .tc) (f : Buf (Elt F) ((c : Thread nD τ).loc b)) :
    (pts (Memref.whole b) c fullShare f : sProp 𝕄) = (((c : Thread nD τ).loc b) ↦{fullShare} f) := by
  unfold pts
  simp only [Memref.view_whole, View.set_whole]

/-- The kernel's scratch buffers, whole, are what its body works in, -/
theorem arena_intro : (Pipeline.scopedRest cfg0.spec c : sProp 𝕄) ⊢ arena c := by
  rw [scopedRest0_eq]
  unfold arena
  iintro ⟨⟨%f0, H0⟩, ⟨%f1, H1⟩, ⟨%f2, H2⟩, ⟨%f3, H3⟩, ⟨%f4, H4⟩, ⟨%f5, H5⟩, ⟨%f6, H6⟩⟩
  isplitl [H0]
  · iapply (((Entails.of_eq (pts_whole c cc0_scratch0 f0).symm).trans (split_slots c xbM f0)).trans (Entails.of_eq (fin2_sep _))) $$ H0
  isplitl [H1]
  · iapply (((Entails.of_eq (pts_whole c cc0_scratch1 f1).symm).trans (split_slots c sqM f1)).trans (Entails.of_eq (fin3_sep _))) $$ H1
  isplitl [H2]
  · iapply (((Entails.of_eq (pts_whole c cc0_scratch2 f2).symm).trans (split_slots c ssM f2)).trans (Entails.of_eq (fin3_sep _))) $$ H2
  isplitl [H3]
  · iapply (((Entails.of_eq (pts_whole c cc0_scratch3 f3).symm).trans (split_slots c rqM f3)).trans (Entails.of_eq (fin3_sep _))) $$ H3
  isplitl [H4]
  · iapply (((Entails.of_eq (pts_whole c cc0_scratch4 f4).symm).trans (split_slots c rsM f4)).trans (Entails.of_eq (fin3_sep _))) $$ H4
  isplitl [H6]
  · iapply (((Entails.of_eq (pts_whole c cc0_scratch6 f6).symm).trans (split_slots c raM f6)).trans (Entails.of_eq (fin3_sep _))) $$ H6
  iexists f5
  iapply (Entails.of_eq (pts_whole c cc0_scratch5 f5).symm) $$ H5

/-- and what its body leaves is those again. -/
theorem arena_elim : arena c ⊢ (Pipeline.scopedRest cfg0.spec c : sProp 𝕄) := by
  rw [scopedRest0_eq]
  unfold arena
  simp only [← pts_whole]
  iintro ⟨H0, H1, H2, H3, H4, H6, H5⟩
  isplitl [H0]
  · iapply ((Entails.of_eq (fin2_sep _).symm).trans (join_slots c xbM)) $$ H0
  isplitl [H1]
  · iapply ((Entails.of_eq (fin3_sep _).symm).trans (join_slots c sqM)) $$ H1
  isplitl [H2]
  · iapply ((Entails.of_eq (fin3_sep _).symm).trans (join_slots c ssM)) $$ H2
  isplitl [H3]
  · iapply ((Entails.of_eq (fin3_sep _).symm).trans (join_slots c rqM)) $$ H3
  isplitl [H4]
  · iapply ((Entails.of_eq (fin3_sep _).symm).trans (join_slots c rsM)) $$ H4
  isplitl [H5]
  · iexact H5
  iapply ((Entails.of_eq (fin3_sep _).symm).trans (join_slots c raM)) $$ H6

end Cert.KernelIdeal.Dist
-- ==== Proof.Ideal.Ghost.lean ====
/-
# What the launch deals each device
-/
module

public import proofs.«01_k».proof.Proof.Ideal.Slots

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-! ## Semaphores -/

/-- The kernel's own semaphores: all but the barrier's. -/
abbrev ownRole (i : Fin 20) : Role := roles.get ⟨i.val + 1, Nat.succ_lt_succ i.isLt⟩
abbrev osem (i : Fin 20) : SemLoc sig := roleSem (ownRole i)

theorem ownSemFacts : Pipeline.OwnSemFacts cfg0.spec osem := by decide +kernel

theorem unscopedSems_eq : (unscopedSems0 c : sProp 𝕄) = semVal (cell c .bar) 0 := by
  unfold unscopedSems0; rw [bigSep_eq_bigSepL_of_eq [SemLoc.reg barS] (by decide) (by decide)]; rfl

theorem ownSems_eq : (Pipeline.ownSems0 (Ix := Unit) (Name := ℕ) (U := UU) (Lvl := ℕ) (Val := Elt F) (τ := τ) osem c : sProp 𝕄)
    = bigSepL (List.finRange 20) fun i => semVal (cell c (ownRole i)) 0 :=
  Pipeline.ownSems0_eq_of_list c osem (List.finRange 20) (by decide +kernel) (by decide +kernel)

/-- The barrier's counter and the kernel's own are those of all roles. -/
theorem sems_eq : iprop(semVal (cell c .bar) 0 ∗ Pipeline.ownSems0 (Ix := Unit) (Name := ℕ) (U := UU) (Lvl := ℕ) (Val := Elt F) (τ := τ) osem c)
    = (bigSep Finset.univ fun ρ => semVal (cell c ρ) 0 : sProp 𝕄) := by
  rw [ownSems_eq, roles_sep]; rfl

/-- Each semaphore, of each device; -/
abbrev cellOf' (x : Dev nD × Role) : GSem nD τ sig := cell x.1 x.2

theorem cellOf'_injective : Function.Injective cellOf' := by
  rintro ⟨c, ρ⟩ ⟨c', ρ'⟩ h
  have h1 : c = c' := congrArg (fun g : GSem nD τ sig => g.1.1) h
  have h2 : ρ = ρ' := roleSem_injective (congrArg Prod.snd h)
  rw [h1, h2]

def cellsAll : Finset (GSem nD τ sig) := Finset.univ.map ⟨cellOf', cellOf'_injective⟩

/-- three duties of each: those of the barrier's round, or one a round. -/
def rd : Role → Fin 3 → ℕ
  | .bar, _ => 0
  | _, i => i.val
def du : Role → Fin 3 → Fin 3
  | .bar, i => i
  | _, _ => 0

theorem rd_du_injective (ρ : Role) (i i' : Fin 3) (h : rd ρ i = rd ρ i') (h' : du ρ i = du ρ i') : i = i' := by
  cases ρ <;> first | exact h' | exact Fin.ext h

abbrev dutyOf (x : Dev nD × Role × Fin 3) : GSem nD τ sig × ℕ × Fin 3 := (cell x.1 x.2.1, rd x.2.1 x.2.2, du x.2.1 x.2.2)

theorem dutyOf_injective : Function.Injective dutyOf := by
  rintro ⟨c, ρ, i⟩ ⟨c', ρ', i'⟩ h
  have h1 : (c, ρ) = (c', ρ') := cellOf'_injective (congrArg Prod.fst h)
  obtain ⟨rfl, rfl⟩ := Prod.mk.inj h1
  have h2 := congrArg Prod.snd h
  rw [rd_du_injective ρ i i' (congrArg Prod.fst h2) (congrArg Prod.snd h2)]

def dutiesAll : Finset (GSem nD τ sig × ℕ × Fin 3) := Finset.univ.map ⟨dutyOf, dutyOf_injective⟩

def u₀ : UU := (initOf (Pipeline.cells cfgs cellOf_inj) (Pipeline.launchToks cfgs cellOf_inj), initOf cellsAll dutiesAll)

/-- The right to a duty. -/
abbrev tk (x : Dev nD × Role × Fin 3) : sProp 𝕄 := dutyTok ER (dutyOf x).1 (dutyOf x).2.1 (dutyOf x).2.2

/-- What the launch deals a device, -/
def G (c : Dev nD) : sProp 𝕄 :=
  iprop((bigSep Finset.univ fun ρ => roundState ER (Rd m) (cell c ρ) 0)
    ∗ (bigSep Finset.univ fun ρ => iprop(pos c ρ 0 ∗ reached ER (cell c ρ) 0))
    ∗ bigSep Finset.univ fun y : Role × Fin 3 => tk (c, y))

/-- and what it has of it once the invariants are set up. -/
def G' (c : Dev nD) : sProp 𝕄 := iprop(∃ K, bigSep Finset.univ (cellAt m K) ∗ rights c ∗ bigSep Finset.univ fun ρ => pos c ρ 0)

theorem fund : BI.own (ER (initOf cellsAll dutiesAll)) ⊢ (|==> bigSep Finset.univ (G m) : sProp 𝕄) := by
  have hX (Φ : GSem nD τ sig → sProp 𝕄) : bigSep cellsAll Φ = bigSep Finset.univ fun c : Dev nD => bigSep Finset.univ fun ρ => Φ (cell c ρ) := by
    unfold cellsAll; rw [bigSep_map, bigSep_univ_prod]; rfl
  have hT : bigSep dutiesAll (fun x => (dutyTok ER x.1 x.2.1 x.2.2 : sProp 𝕄))
      = bigSep Finset.univ fun c : Dev nD => bigSep Finset.univ fun y : Role × Fin 3 => tk (c, y) := by
    unfold dutiesAll; rw [bigSep_map, bigSep_univ_prod]; rfl
  iintro HX
  imod (Rounds.fund ER (Rd m) cellsAll dutiesAll) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The duties dealt to the devices that pay them -/

/-- On whose semaphore device `c` pays. -/
def holder : Role → Fin 3 → Dev nD → Dev nD
  | .bar, i, c => peer i.rev c
  | .qR k, _, c => peer k c
  | .sR k, _, c => peer k c
  | .aR k, _, c => peer k c
  | _, _, c => c

theorem peer_injective (k : Fin 3) : Function.Injective (peer k) := fun c c' h => by rw [← src_peer k c, h, src_peer]

theorem holder_injective (ρ : Role) (i : Fin 3) : Function.Injective (holder ρ i) := by
  cases ρ <;> first | exact peer_injective _ | exact fun _ _ h => h

def dealt : (Dev nD × Role × Fin 3) ≃ (Dev nD × Role × Fin 3) :=
  Equiv.ofBijective (fun x => (holder x.2.1 x.2.2 x.1, x.2)) (Finite.injective_iff_bijective.mp fun x x' h => by
    obtain ⟨c, ρ, i⟩ := x
    obtain ⟨c', ρ', i'⟩ := x'
    have h2 : (ρ, i) = (ρ', i') := congrArg Prod.snd h
    obtain ⟨rfl, rfl⟩ := Prod.mk.inj h2
    have h1 : c = c' := holder_injective ρ i (congrArg Prod.fst h)
    rw [h1])

theorem deal : (bigSep Finset.univ fun c : Dev nD => bigSep Finset.univ fun y : Role × Fin 3 => (tk (c, y) : sProp 𝕄))
    = bigSep Finset.univ fun c : Dev nD => bigSep Finset.univ fun ρ : Role => three fun i => tk (holder ρ i c, ρ, i) := by
  rw [← bigSep_univ_prod (fun x : Dev nD × Role × Fin 3 => (tk x : sProp 𝕄)), bigSep_univ_equiv dealt, bigSep_univ_prod]
  refine bigSep_congr fun c _ => ?_
  rw [bigSep_univ_prod]
  exact bigSep_congr fun ρ _ => fin3_sep _

theorem rights_intro : (bigSep Finset.univ fun ρ : Role => three fun i => (tk (holder ρ i c, ρ, i) : sProp 𝕄)) ⊢ rights c := by
  rw [roles_sep]
  unfold rights
  iintro ⟨⟨HB2, HB1, HB0⟩, ⟨Hx00, Hx01, -⟩, ⟨Hx10, Hx11, -⟩, ⟨H1, -, -⟩, ⟨H2, -, -⟩, ⟨H3, -, -⟩, ⟨H4, -, -⟩, ⟨H5, -, -⟩, ⟨H6, -, -⟩,
    ⟨H7, -, -⟩, ⟨H8, -, -⟩, ⟨H9, -, -⟩, ⟨H10, -, -⟩, ⟨H11, -, -⟩, ⟨H12, -, -⟩, ⟨H13, -, -⟩, ⟨H14, -, -⟩, ⟨H15, -, -⟩, ⟨H16, -, -⟩, ⟨H17, -, -⟩, ⟨H18, -, -⟩⟩
  isplitl [HB0 HB1 HB2]
  · isplitl [HB0]; · iexact HB0
    isplitl [HB1]; · iexact HB1
    iexact HB2
  isplitl [Hx00 Hx01 Hx10 Hx11]
  · isplitl [Hx00 Hx01]
    · isplitl [Hx00]; · iexact Hx00
      iexact Hx01
    isplitl [Hx10]; · iexact Hx10
    iexact Hx11
  isplitl [H1 H2 H3]
  · isplitl [H1]; · iexact H1
    isplitl [H2]; · iexact H2
    iexact H3
  isplitl [H7 H8 H9]
  · isplitl [H7]; · iexact H7
    isplitl [H8]; · iexact H8
    iexact H9
  isplitl [H13 H14 H15]
  · isplitl [H13]; · iexact H13
    isplitl [H14]; · iexact H14
    iexact H15
  isplitl [H4 H5 H6]
  · isplitl [H4]; · iexact H4
    isplitl [H5]; · iexact H5
    iexact H6
  isplitl [H10 H11 H12]
  · isplitl [H10]; · iexact H10
    isplitl [H11]; · iexact H11
    iexact H12
  isplitl [H16]; · iexact H16
  isplitl [H17]; · iexact H17
  iexact H18

/-! ## The invariants set up -/

theorem core_alloc : iprop(Pipeline.ownSems0 (Ix := Unit) (Name := ℕ) (U := UU) (Lvl := ℕ) (Val := Elt F) (τ := τ) osem c ∗ unscopedSems0 c ∗ G m c)
    ⊢ |={Set.univ}=> iprop((bigSep Finset.univ fun ρ => iprop(∃ κ : ℕ, cellInv ER (Rd m) κ (cell c ρ)))
        ∗ (bigSep Finset.univ fun ρ => iprop(pos c ρ 0 ∗ reached ER (cell c ρ) 0))
        ∗ bigSep Finset.univ fun y : Role × Fin 3 => tk (c, y)) := by
  unfold G
  iintro ⟨Hos, Hus, Hst, Hat, Htok⟩
  ihave Hus := (Entails.of_eq (unscopedSems_eq c)) $$ Hus
  ihave Hv := (Entails.of_eq (sems_eq (F := F) c)) $$ [Hos Hus]
  · isplitl [Hus] <;> iassumption
  imod (show iprop((bigSep Finset.univ fun ρ => semVal (cell c ρ) 0) ∗ bigSep Finset.univ fun ρ => roundState ER (Rd m) (cell c ρ) 0)
      ⊢ (|={Set.univ}=> bigSep Finset.univ fun ρ => iprop(∃ κ : ℕ, cellInv ER (Rd m) κ (cell c ρ)) : sProp 𝕄) from by
        rw [← bigSep_sep']
        exact (bigSep_mono fun ρ _ => (Rounds.body_intro ER (Rd m) (cell c ρ)).trans inv_alloc).trans (bigSep_fupd _ _)) $$ [Hv Hst] with Hinv
  · isplitl [Hv] <;> iassumption
  imodintro
  isplitl [Hinv]; · iexact Hinv
  isplitl [Hat]; · iexact Hat
  iexact Htok

/-- A fact that may be repeated, given to each of several. -/
theorem share_out {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop((bigSep Finset.univ fun ρ => iprop(∃ κ : ℕ, cellInv ER (Rd m) κ (cell c ρ)))
        ∗ (bigSep Finset.univ fun ρ => iprop(pos c ρ 0 ∗ reached ER (cell c ρ) 0))
        ∗ bigSep Finset.univ fun y : Role × Fin 3 => tk (c, y)) : sProp 𝕄)
    ⊢ bigSep Finset.univ (G' m) := by
  rw [bigSep_sep', bigSep_sep', deal, ← bigSep_univ_prod (fun x : Dev nD × Role => iprop(∃ κ : ℕ, cellInv ER (Rd m) κ (cell x.1 x.2))),
    bigSep_congr (s := Finset.univ) (fun (c : Dev nD) _ => bigSep_sep' Finset.univ (fun ρ : Role => (pos c ρ 0 : sProp 𝕄)) (fun ρ => reached ER (cell c ρ) 0)),
    bigSep_sep', ← bigSep_univ_prod (fun x : Dev nD × Role => (reached ER (cell x.1 x.2) 0 : sProp 𝕄))]
  iintro ⟨HI, ⟨Hat, HR⟩, Htok⟩
  ihave HK := (BI.bigSep_exists_pi Finset.univ (fun (x : Dev nD × Role) (κ : ℕ) => (cellInv ER (Rd m) κ (cell x.1 x.2) : sProp 𝕄))) $$ HI
  icases HK with ⟨%K, HI⟩
  ihave HC := (Entails.of_eq (bigSep_sep' Finset.univ (fun x : Dev nD × Role => (cellInv ER (Rd m) (K x) (cell x.1 x.2) : sProp 𝕄))
    (fun x => reached ER (cell x.1 x.2) 0)).symm) $$ [HI HR]
  · isplitl [HI] <;> iassumption
  iapply (share_out (R := bigSep Finset.univ (cellAt m K))
    (Φ := fun c : Dev nD => iprop((bigSep Finset.univ fun ρ : Role => (pos c ρ 0 : sProp 𝕄)) ∗ bigSep Finset.univ fun ρ : Role => three fun i => tk (holder ρ i c, ρ, i)))
    fun c _ => show iprop(bigSep Finset.univ (cellAt m K) ∗ (bigSep Finset.univ fun ρ : Role => (pos c ρ 0 : sProp 𝕄)) ∗ bigSep Finset.univ fun ρ : Role => three fun i => tk (holder ρ i c, ρ, i)) ⊢ G' m c by
      unfold G'
      iintro ⟨H1, H2, H3⟩
      iexists K
      isplitl [H1]; · iexact H1
      isplitl [H3]; · iapply (rights_intro c) $$ H3
      iexact H2)
  isplitl [HC]; · iexact HC
  iapply (Entails.of_eq (bigSep_sep' Finset.univ (fun c : Dev nD => bigSep Finset.univ fun ρ : Role => (pos c ρ 0 : sProp 𝕄)) _).symm)
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what the others owe -/

/-- The credit of a list of debts, each on the device's own semaphore. -/
def due (c : Dev nD) : List (Role × Fin 3) → sProp 𝕄
  | [] => iprop(emp)
  | x :: l => iprop(due c l ∗ crd c x.1)

theorem due_intro : ∀ l : List (Role × Fin 3), (Pipeline.launchCred (fun d => owing d l) c : sProp 𝕄) ⊢ due c l
  | [] => Entails.of_eq (Pipeline.launchCred_zero c)
  | x :: l => (Entails.of_eq (Pipeline.launchCred_add (fun d => owing d l) (fun d => tallyAt (cell (peer x.2 d) x.1) () (amt x.1)) c)).trans
      (BI.sep_mono (due_intro l) (Pipeline.launchCred_tallyAt (roleSem x.1) (peer x.2) (src x.2) (peer_src x.2) (src_peer x.2) () (amt x.1) c))

theorem credits_intro : (Pipeline.launchCred (owed 0) c : sProp 𝕄) ⊢ credits c := by
  refine (due_intro c debts).trans ?_
  show iprop((((((((((((emp ∗ crd c (.aR 2)) ∗ crd c (.aR 1)) ∗ crd c (.aR 0)) ∗ crd c (.sR 2)) ∗ crd c (.qR 2)) ∗ crd c (.sR 1)) ∗ crd c (.qR 1)) ∗ crd c (.sR 0)) ∗ crd c (.qR 0))
    ∗ crd c .bar) ∗ crd c .bar) ∗ crd c .bar) ⊢ credits c
  unfold credits
  iintro ⟨⟨⟨⟨⟨⟨⟨⟨⟨⟨⟨⟨-, A2⟩, A1⟩, A0⟩, S2⟩, Q2⟩, S1⟩, Q1⟩, S0⟩, Q0⟩, B2⟩, B1⟩, B0⟩
  isplitl [B0 B1 B2]
  · ihave B := (cred_add _ _).2 $$ [B0 B1]
    · isplitl [B0]; · iexact B0
      iexact B1
    ihave B := (cred_add _ _).2 $$ [B B2]
    · isplitl [B]; · iexact B
      iexact B2
    iapply (Entails.of_eq (congrArg cred (show tallyAt (cell c .bar) () (amt .bar) + tallyAt (cell c .bar) () (amt .bar) + tallyAt (cell c .bar) () (amt .bar) = (tallyAt (cell c .bar) () 3 : CellTallies nD τ sig Unit) by
      rw [tallyAt_add, tallyAt_add]; rfl))) $$ B
  isplitl [Q0 Q1 Q2]
  · isplitl [Q0]; · iexact Q0
    isplitl [Q1]; · iexact Q1
    iexact Q2
  isplitl [S0 S1 S2]
  · isplitl [S0]; · iexact S0
    isplitl [S1]; · iexact S1
    iexact S2
  isplitl [A0]; · iexact A0
  isplitl [A1]; · iexact A1
  iexact A2

end Cert.KernelIdeal.Dist
-- ==== Proof.Ideal.Launch.lean ====
/-
# The launch, and the run of the whole mesh
-/
module

public import proofs.«01_k».proof.Proof.Ideal.Ghost
public import Idealize.ShloMosaic.Lib.Quiescent
public import Idealize.ShloMosaic.Lib.Pipeline.CollectiveSegs

@[expose] public section

noncomputable section

namespace Cert.KernelIdeal.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- What the body starts from, the buffers aside, -/
def start (c : Dev nD) : sProp 𝕄 :=
  iprop((∃ K, ctx m K ∗ rights c ∗ bigSep Finset.univ fun ρ => pos c ρ 0) ∗ credits c ∗ xHalf m c 0 ∗ xHalf m c 1)

def Φ₀ (c : Dev nD) : sProp 𝕄 := iprop(start m c ∗ arena c)

/-- and what it ends with: every semaphore closed at zero, `x` whole. -/
def Φ₁ (c : Dev nD) : sProp 𝕄 :=
  iprop((bigSep Finset.univ fun ρ => semVal (cell c ρ) 0) ∗ (((c : Thread nD τ).loc main_arg0) ↦{fullShare} m ((c : Thread nD τ).loc main_arg0)) ∗ arena c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wv m c
    | ⟨1, _⟩ => outF m c
  Φ t := match t with
    | ⟨0, _⟩ => Φ₀ m c
    | ⟨_ + 1, _⟩ => Φ₁ m c
  q _ := fullShare
  owed t := match t with
    | ⟨0, _⟩ => owed 0 c
    | ⟨_ + 1, _⟩ => 0

/-- A whole buffer reading `X`, as the pipeline states it. -/
theorem owns_pts (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pts (Memref.whole b) c fullShare f) := by
  unfold owns; simp only [Memref.view_whole, View.read_whole]

abbrev stg (c : Dev nD) (b : Ref sig .tc) (X : b.ty.Contents (Elt F)) : sProp 𝕄 :=
  iprop(∃ f : Buf (Elt F) ((c : Thread nD τ).loc b), ⌜f = X⌝ ∗ pts (Memref.whole b) c fullShare f)

/-- All semaphores close. -/
theorem close_all (K : Dev nD × Role → ℕ) : iprop(ctx m K ∗ bigSep Finset.univ fun ρ' => pos c ρ' (rounds ρ'))
    ⊢ |={Set.univ}=> (bigSep Finset.univ fun ρ' => semVal (cell c ρ') 0 : sProp 𝕄) := by
  refine (share_out (R := ctx m K) (Ψ := fun ρ' => iprop(|={Set.univ}=> semVal (cell c ρ') 0)) fun ρ' _ => ?_).trans (bigSep_fupd _ _)
  show iprop(ctx m K ∗ pos c ρ' (rounds ρ')) ⊢ iprop(|={Set.univ}=> semVal (cell c ρ') 0)
  iintro ⟨HC, Hp⟩
  ihave HI := (ctx_at m K c ρ') $$ HC
  icases HI with ⟨HI, -⟩
  iapply (Rounds.cell_close ER (Rd m) (Set.mem_univ (K (c, ρ'))) (fun h => h) (R := rounds ρ') (duties_done m c ρ'))
  isplitl [HI]; · iexact HI
  iexact Hp

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (wv m c) ∗ stg c cc0_stg1_0 (outF m c))

theorem sound_body : bodyPre m ρ c ⊢ run c (cc0_body (Memref.whole main_arg0) (Memref.isWhole_whole _) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) (fun _ => iprop(|={Set.univ}=> bodyPost m ρ c)) := by
  unfold bodyPre Φ₀ start
  iintro ⟨⟨⟨⟨%K, #HC, Hr, Hp⟩, Hcr, Hx0, Hx1⟩, Ha⟩, Ho, ⟨%d0, %g0, %hg0, Hw⟩, ⟨%d1, %g1, %hg1, Hout⟩⟩
  have hx : g0 = wv m c := by rw [hg0]; unfold Dat.before; rw [if_pos (show (cfg0.win (0 : Fin 2)).fetch t0_0 = true from by decide)]; rfl
  subst hx
  unfold Dat.owesAt Pipeline.owesWithin
  icases Ho with ⟨%W, %hW, HO⟩
  iapply (body m K c g1)
  isplitl [Hr Hp Hcr Hx0 Hx1 Ha HO Hw Hout]
  · isplitr; · iexact HC
    isplitl [HO]; · unfold owesN; iexists W; iexact HO
    isplitl [Hx0]; · iexact Hx0
    isplitl [Hx1]; · iexact Hx1
    isplitl [Ha]; · iexact Ha
    isplitl [Hr]; · iexact Hr
    isplitl [Hcr]; · iexact Hcr
    isplitl [Hp]; · iexact Hp
    isplitl [Hw]; · iexact Hw
    iexact Hout
  iintro ⟨HO, Hx0, Hx1, Ha, Hp, Hw, Hout⟩
  imod (close_all m c K) $$ [Hp] with Hz
  · isplitr; · iexact HC
    iexact Hp
  imodintro
  unfold bodyPost Φ₁ Dat.owesAt Pipeline.owesWithin owesN
  icases HO with ⟨%W', HO⟩
  isplitl [Hz Hx0 Hx1 Ha]
  · isplitl [Hz]; · iexact Hz
    isplitl [Hx0 Hx1]
    · iapply (((pointsTo_share (PosShare.mem_left_op_right fullShare)).2).trans (Entails.of_eq (pts_whole c main_arg0 _)))
      isplitl [Hx0]; · iexact Hx0
      iexact Hx1
    iexact Ha
  isplitl [HO]
  · iexists W'
    isplitr; · ipureintro; exact fun _ _ => Or.inl trivial
    iexact HO
  isplitl [Hw]
  · iexists (wv m c); isplitr; · (ipureintro; rfl)
    iexact Hw
  iexists (outF m c); isplitr; · (ipureintro; rfl)
  iexact Hout

set_option maxRecDepth 4000 in
theorem body_obligation : BodyObligation (dats (F := F) m ρ 0 c) (defs₀ (F := F)) 𝒱₀ () Set.univ := fun t => by
  rw [show t = t0_0 from fin_N0 t]
  rw [show (Finset.univ : Finset (Fin cfg0.W)) = (Finset.univ : Finset (Fin 2)) from rfl, bigSep_W0, bigSep_W0]
  simp only [owns_pts]
  exact (sound_body m ρ c).trans (wp_fupd _ _ _ _ _)

/-! ## The launch's side conditions -/

theorem share_eq (w : Fin cfg0.W) : (dats m ρ 0 c).share w = fullShare := by unfold Dat.share; split <;> rfl

theorem waits : (levAts L lv : sProp 𝕄) ⊢ Pipeline.cellsWaits cfgs (dats m ρ) () 0 c :=
  Pipeline.cellsWaits_intro cfgs (dats m ρ) () 0 c fun w s t =>
    mayWait_stage c _ (by
      intro ρ'
      fin_cases w <;> fin_cases s <;> (revert ρ'; decide +kernel)) _ (by
      rcases t with ⟨_ | _, ht⟩
      · exact Or.inl rfl
      · exact Or.inr rfl)

theorem rest_x : (Pipeline.unscopedRestP Pipeline.Prefetch.none cfg0.spec c (fun b => m ((c : Thread nD τ).loc b)) : sProp 𝕄)
    = (((c : Thread nD τ).loc main_arg0) ↦{fullShare} m ((c : Thread nD τ).loc main_arg0)) := by
  rw [Pipeline.unscopedRestP_eq_of_list cfg0.spec c Pipeline.Prefetch.none (fun b => m ((c : Thread nD τ).loc b)) [main_arg0] (by decide) (by decide)]; rfl

theorem start_intro :
    iprop(Pipeline.unscopedRestP Pipeline.Prefetch.none cfg0.spec c (fun b => m ((c : Thread nD τ).loc b)) ∗ levAts L lv
        ∗ Pipeline.launchCred (owed 0) c ∗ prngReg c (ρ c) ∗ G' m c)
      ⊢ |={Set.univ}=> iprop(start m c ∗ emp) := by
  iintro ⟨Hx, Hlev, Hcr, -, HG⟩
  ihave Hc := (credits_intro (F := F) c) $$ Hcr
  ihave Hx := (((Entails.of_eq (rest_x m c)).trans (Entails.of_eq (pts_whole c main_arg0 _).symm)).trans (pointsTo_share (PosShare.mem_left_op_right fullShare)).1) $$ Hx
  icases Hx with ⟨Hx0, Hx1⟩
  unfold start G'
  icases HG with ⟨%K, HI, Hr, Hp⟩
  imodintro
  isplitl
  · isplitl [HI Hlev Hr Hp]
    · iexists K
      isplitl [HI Hlev]
      · unfold ctx
        isplitl [HI]; · iexact HI
        iexact Hlev
      isplitl [Hr]; · iexact Hr
      iexact Hp
    isplitl [Hc]; · iexact Hc
    isplitl [Hx0]; · iexact Hx0
    iexact Hx1
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (arena_intro c) $$ Hr

/-- What is read at the end: the barrier's counter and `x`. -/
def Y (c : Dev nD) : sProp 𝕄 := iprop(unscopedSems0 c ∗ (((c : Thread nD τ).loc main_arg0) ↦{fullShare} m ((c : Thread nD τ).loc main_arg0)))

theorem phi1_exit :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl]
  unfold Φ₁ Y
  iintro ⟨Hz, Hx, Ha⟩
  ihave Hz := (Entails.of_eq (sems_eq (F := F) c).symm) $$ Hz
  icases Hz with ⟨HB, Hz⟩
  isplitl [HB Hx]
  · isplitl [HB]; · iapply (Entails.of_eq (unscopedSems_eq c).symm) $$ HB
    iexact Hx
  isplitl [Hz]; · iexact Hz
  iapply (arena_elim c) $$ Ha

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- From any memory with zero counters every weakly fair execution terminates, the arrays at the computed contents,
    `x` unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold Y
      iintro ⟨⟨Hu, Hx⟩, -, HSI⟩
      imod (Pipeline.unscopedSems0_read (X := unscopedSems0 c) (c := c) fupd_intro s') $$ [Hu HSI] with ⟨%h, HSI⟩
      · isplitl [Hu] <;> iassumption
      ihave %hx := (SI_pointsTo_agree (st := s')) $$ [HSI Hx]
      · isplitl [HSI]; · iexact HSI
        iexact Hx
      imodintro
      isplitr; · ipureintro; exact ⟨h, funext fun i => hx i (Finset.mem_univ i)⟩
      iexact HSI)
    (hQ := fun _ h hs => ⟨fun c => ⟨fun w => (h c).1 w, (h c).2.2.2⟩, sem_eq_zero hs fun c => (h c).2.2.1⟩)

/-- The weights end as they were. -/
theorem final_w : finalA m ρ c (0 : Fin 2) = m ((c : Thread nD τ).loc main_arg1) := (dats (F := F) m ρ 0 c).arrAt_in (0 : Fin 2) rfl _

/-- The staged weights are the weights. -/
theorem wv_eq : wv m c = m ((c : Thread nD τ).loc main_arg1) := by
  have hz : (fun a => (win0_0.index (0 : Fin 1)) a * main_arg1.ty.shape.size a) = fun _ => 0 := funext fun a => by fin_cases a <;> decide
  exact Memref.read_access_unit_zero (Elt F) main_arg1 hz (fun a => by fin_cases a <;> decide) _

/-- The result is what the body wrote. -/
theorem final_o : finalA m ρ c (1 : Fin 2) = outF m c := by
  have hz : (fun a => (win0_1.index (0 : Fin 1)) a * main_v1.ty.shape.size a) = fun _ => 0 := funext fun a => by fin_cases a <;> decide
  refine (Memref.read_access_unit_zero (Elt F) main_v1 hz (fun a => by fin_cases a <;> decide) _).symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The run: each device's result, its arguments unchanged, the counters at zero. -/
theorem run_value : θ_run defs (onTc (τ := τ) (main (F := F))) ⟨m, fun _ => 0, ρ⟩ (fun r =>
    (∀ c : Dev nD, r.2.mem ((c : Thread nD τ).loc main_v1) = outF m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (final_o m ρ c), (h.1 c).2, ((h.1 c).1 (0 : Fin 2)).trans (final_w m ρ c)⟩, h.2⟩)
    (run_main m ρ)

end Cert.KernelIdeal.Dist
-- ==== Proof.Claims.Frames.lean ====
/- The three frames: every run of the kernel, in either reading of its floats, and of the reference
   ends, with the arguments as they were and every counter back at zero. -/
module

public import proofs.«01_k».proof.Defs
public import proofs.«01_k».proof.Proof.Float.Launch
public import proofs.«01_k».proof.Proof.Ideal.Launch
public import proofs.«01_k».proof.Proof.Gen.ReferenceIdeal.Run

@[expose] public section

noncomputable section

namespace Cert.Claims

open Idealize.ShloMosaic Idealize.SL.Sem

theorem frame_kernel : Cert.quiescent_Kernel := fun m g _ =>
  (θ_run _ _ _).mono (fun _ h => ⟨fun c => (h.1 c).2, h.2⟩) (Cert.Kernel.Dist.run_value m g)

theorem frame_kernelIdeal : Cert.quiescent_KernelIdeal := fun m g _ =>
  (θ_run _ _ _).mono (fun _ h => ⟨fun c => (h.1 c).2, h.2⟩) (Cert.KernelIdeal.Dist.run_value m g)

theorem frame_referenceIdeal : Cert.quiescent_ReferenceIdeal := fun m g _ =>
  (θ_run _ _ _).mono (fun r h => ⟨fun c => (h c).2, sem_eq_zero_of_no_sems (by decide) r.2⟩)
    (Cert.ReferenceIdeal.Value.run m g)

end Cert.Claims

end
-- ==== Proof.Value.Wire.lean ====
/- The mathematics that both programs meet in: a partial product rounded to int8 codes for the way between two
   devices, the sum of four of them, and the clipped quotient by one scale for the whole array. Over the extended
   reals; no program is mentioned. -/
module

public import Idealize.ShloMosaic.PureOps.Ideal
public import Idealize.ShloMosaic.PureOps.Ideal.Laws
public import Mathlib.Data.Finset.Fold

@[expose] public section

noncomputable section

namespace Cert.Wire

open Idealize.ShloMosaic

/-- The literals of the two programs, as the words they print. -/
abbrev c127 : EReal := Ideal.ofBits .f32 0x42FE0000#32
abbrev n127 : EReal := Ideal.ofBits .f32 0xC2FE0000#32
abbrev c448 : EReal := Ideal.ofBits .f32 0x43E00000#32
abbrev n448 : EReal := Ideal.ofBits .f32 0xC3E00000#32
abbrev tiny : EReal := Ideal.ofBits .f32 0x1E3CE508#32
abbrev low : EReal := Ideal.ofBits .f32 0xFF800000#32

/-- The magnitude, as both programs take it. -/
abbrev mag (x : EReal) : EReal := FloatOps.absf (F := Ideal) (φ := .f32) x

theorem c127_eq : c127 = ((127 : ℝ) : EReal) := by
  simp [Ideal.ofBits, Ideal.ieee, -EReal.coe_mul]; norm_num

theorem n127_eq : n127 = ((-127 : ℝ) : EReal) := by
  simp [Ideal.ofBits, Ideal.ieee, -EReal.coe_mul, -EReal.coe_neg]; norm_num

/-- A rounded and clipped value. -/
def clip (t : EReal) : EReal := min c127 (max n127 (Ideal.liftRound Ideal.roundHalfEven t))

/-- It is an integer between -127 and 127, whatever was rounded. -/
theorem clip_int (t : EReal) : ∃ n : ℤ, -127 ≤ n ∧ n ≤ 127 ∧ clip t = ((n : ℝ) : EReal) := by
  unfold clip
  rw [c127_eq, n127_eq]
  induction t with
  | bot =>
    refine ⟨-127, by omega, by omega, ?_⟩
    show min ((127 : ℝ) : EReal) (max ((-127 : ℝ) : EReal) ⊥) = _
    rw [max_eq_left bot_le, min_eq_right (EReal.coe_le_coe_iff.mpr (by norm_num))]
    norm_num
  | top =>
    refine ⟨127, by omega, by omega, ?_⟩
    show min ((127 : ℝ) : EReal) (max ((-127 : ℝ) : EReal) ⊤) = _
    rw [max_eq_right le_top, min_eq_left le_top]
    norm_num
  | coe r =>
    refine ⟨min 127 (max (-127) (Ideal.roundHalfEven r)), by omega, by omega, ?_⟩
    have e : ((min 127 (max (-127) (Ideal.roundHalfEven r)) : ℤ) : ℝ)
        = min (127 : ℝ) (max (-127 : ℝ) (Ideal.roundHalfEven r : ℝ)) := by push_cast; rfl
    rw [e, EReal.coe_strictMono.monotone.map_min, EReal.coe_strictMono.monotone.map_max]
    rfl

/-- Converting such a value to `w ≥ 8` bits gives the word of its integer. -/
theorem fptosi_int {w : ℕ} (hw : 8 ≤ w) {n : ℤ} (h1 : -127 ≤ n) (h2 : n ≤ 127) :
    Ideal.fptosi w ((n : ℝ) : EReal) = BitVec.ofInt w n := by
  have h128 : (2 : ℤ) ^ 7 ≤ 2 ^ (w - 1) := pow_le_pow_right₀ (by norm_num) (by omega)
  unfold Ideal.fptosi
  rw [Ideal.toIntClamped_coe]
  simp only [Int.floor_intCast, Int.ceil_intCast, ite_self]
  congr 1
  push_cast
  omega

theorem toInt_word {w : ℕ} (hw : 8 ≤ w) {n : ℤ} (h1 : -127 ≤ n) (h2 : n ≤ 127) : (BitVec.ofInt w n).toInt = n := by
  have h128 : (2 : ℤ) ^ 7 ≤ 2 ^ (w - 1) := pow_le_pow_right₀ (by norm_num) (by omega)
  exact BitVec.toInt_ofInt_eq_self (by omega) (by omega) (by omega)

/-- The kernel's way there and back: to eight bits and to a float again. -/
theorem code_kernel (t : EReal) :
    FloatOps.sitofp (F := Ideal) .f32 (FloatOps.fptosi (F := Ideal) (φ := .f32) 8 (clip t)) = clip t := by
  obtain ⟨n, h1, h2, h⟩ := clip_int t
  rw [h]
  show (((Ideal.fptosi 8 ((n : ℝ) : EReal)).toInt : ℝ) : EReal) = _
  rw [fptosi_int le_rfl h1 h2, toInt_word le_rfl h1 h2]

/-- The reference's way: to 32 bits, cut to eight, widened again. -/
theorem code_host (t : EReal) :
    FloatOps.sitofp (F := Ideal) .f32 (((FloatOps.fptosi (F := Ideal) (φ := .f32) 32 (clip t)).setWidth 8).signExtend 32)
      = clip t := by
  obtain ⟨n, h1, h2, h⟩ := clip_int t
  rw [h]
  show (((((Ideal.fptosi 32 ((n : ℝ) : EReal)).setWidth 8).signExtend 32).toInt : ℝ) : EReal) = _
  rw [fptosi_int (by omega) h1 h2, BitVec.toInt_signExtend_of_le (by omega)]
  have e : (BitVec.ofInt 32 n).setWidth 8 = BitVec.ofInt 8 n := by
    apply BitVec.eq_of_toNat_eq
    simp only [BitVec.toNat_setWidth, BitVec.toNat_ofInt]
    omega
  rw [e, toInt_word le_rfl h1 h2]

/-- The columns of `j`'s group of 128. -/
abbrev lane (b : Fin 16) (l : Fin 128) : Fin 2048 := ⟨b.val * 128 + l.val, by omega⟩

abbrev group (j : Fin 2048) : Fin 16 := ⟨j.val / 128, by omega⟩

theorem lane_group (j : Fin 2048) : lane (group j) ⟨j.val % 128, Nat.mod_lt _ (by decide)⟩ = j :=
  Fin.ext (by show j.val / 128 * 128 + j.val % 128 = j.val; omega)

/-- The greatest magnitude of a group of a row. -/
def peak (p : Fin 2048 → EReal) (b : Fin 16) : EReal := Finset.univ.fold max low fun l => mag (p (lane b l))

/-- The group's scale. -/
def scale (p : Fin 2048 → EReal) (b : Fin 16) : EReal := max (Ideal.div (peak p b) c127) tiny

/-- A row of a partial product after the way: code times scale. -/
def wire (p : Fin 2048 → EReal) (j : Fin 2048) : EReal :=
  clip (Ideal.div (p j) (scale p (group j))) * scale p (group j)

/-- A row of the whole array, from a device and a row of its block; a column of the first factor likewise. -/
abbrev at4 (d : Fin 4) (r : Fin 1024) : Fin 4096 := ⟨d.val * 1024 + r.val, by omega⟩

variable (x : Fin 4096 → Fin 4096 → EReal) (w : Fin 4096 → Fin 2048 → EReal)

/-- The product over the columns that device `d` holds. -/
def part (d : Fin 4) (i : Fin 4096) (j : Fin 2048) : EReal := ∑ k : Fin 1024, x i (at4 d k) * w (at4 d k) j

/-- That product as it enters the sum: rounded, unless the row is one of device `d`'s own. -/
def term (d : Fin 4) (i : Fin 4096) (j : Fin 2048) : EReal :=
  if d.val * 1024 ≤ i.val ∧ i.val < (d.val + 1) * 1024 then part x w d i j else wire (part x w d i) j

def total (i : Fin 4096) (j : Fin 2048) : EReal := ∑ d, term x w d i j

/-- The greatest magnitude of the whole sum. -/
def most : EReal := Finset.univ.fold max low fun p : Fin 4096 × Fin 2048 => mag (total x w p.1 p.2)

/-- The quotient by the scale, clipped, times the scale. -/
def snap (y a : EReal) : EReal := min c448 (max n448 (Ideal.div y (Ideal.div a c448))) * Ideal.div a c448

def result (i : Fin 4096) (j : Fin 2048) : EReal := snap (total x w i j) (most x w)

theorem term_own (c : Fin 4) (r : Fin 1024) (j : Fin 2048) : term x w c (at4 c r) j = part x w c (at4 c r) j :=
  if_pos ⟨by show c.val * 1024 ≤ c.val * 1024 + r.val; omega, by show c.val * 1024 + r.val < _; omega⟩

theorem term_other {c d : Fin 4} (h : d ≠ c) (r : Fin 1024) (j : Fin 2048) :
    term x w d (at4 c r) j = wire (part x w d (at4 c r)) j :=
  if_neg fun ⟨h1, h2⟩ => h (Fin.ext (by
    have h1 : d.val * 1024 ≤ c.val * 1024 + r.val := h1
    have h2 : c.val * 1024 + r.val < (d.val + 1) * 1024 := h2
    omega))

/-- A sum over the four devices, from device `c` downwards. -/
theorem sum_from (c : Fin 4) (f : Fin 4 → EReal) : ∑ d, f d = f c + f (c + 3) + f (c + 2) + f (c + 1) := by
  rw [Fin.sum_univ_four]
  match c with
  | 0 => show f 0 + f 1 + f 2 + f 3 = f 0 + f 3 + f 2 + f 1; abel
  | 1 => show f 0 + f 1 + f 2 + f 3 = f 1 + f 0 + f 3 + f 2; abel
  | 2 => show f 0 + f 1 + f 2 + f 3 = f 2 + f 1 + f 0 + f 3; abel
  | 3 => show f 0 + f 1 + f 2 + f 3 = f 3 + f 2 + f 1 + f 0; abel

/-- Device `c`'s rows of the sum, in the order in which that device adds. -/
theorem total_at (c : Fin 4) (r : Fin 1024) (j : Fin 2048) :
    total x w (at4 c r) j
      = part x w c (at4 c r) j + wire (part x w (c + 3) (at4 c r)) j + wire (part x w (c + 2) (at4 c r)) j
        + wire (part x w (c + 1) (at4 c r)) j := by
  unfold total
  rw [sum_from c, term_own, term_other, term_other, term_other]
  all_goals revert c; decide

/-- The whole array's maximum is the greatest of the four blocks'. -/
theorem most_blocks (c : Fin 4) :
    most x w
      = max (max (max (Finset.univ.fold max low fun p : Fin 1024 × Fin 2048 => mag (total x w (at4 c p.1) p.2))
          (Finset.univ.fold max low fun p : Fin 1024 × Fin 2048 => mag (total x w (at4 (c + 3) p.1) p.2)))
          (Finset.univ.fold max low fun p : Fin 1024 × Fin 2048 => mag (total x w (at4 (c + 2) p.1) p.2)))
          (Finset.univ.fold max low fun p : Fin 1024 × Fin 2048 => mag (total x w (at4 (c + 1) p.1) p.2)) := by
  have hc : ∀ d : Fin 4, d = c ∨ d = c + 3 ∨ d = c + 2 ∨ d = c + 1 := by revert c; decide
  refine eq_of_forall_ge_iff fun e => ?_
  unfold most
  simp only [max_le_iff, Finset.fold_max_le, Finset.mem_univ, true_implies, Prod.forall]
  constructor
  · rintro ⟨h0, h⟩
    exact ⟨⟨⟨⟨h0, fun _ _ => h _ _⟩, h0, fun _ _ => h _ _⟩, h0, fun _ _ => h _ _⟩, h0, fun _ _ => h _ _⟩
  · rintro ⟨⟨⟨⟨h0, k0⟩, -, k3⟩, -, k2⟩, -, k1⟩
    refine ⟨h0, fun i j => ?_⟩
    have hi : i = at4 ⟨i.val / 1024, by omega⟩ ⟨i.val % 1024, Nat.mod_lt _ (by decide)⟩ :=
      Fin.ext (by show i.val = i.val / 1024 * 1024 + i.val % 1024; omega)
    rw [hi]
    rcases hc ⟨i.val / 1024, by omega⟩ with h | h | h | h <;> rw [h]
    · exact k0 _ _
    · exact k3 _ _
    · exact k2 _ _
    · exact k1 _ _

end Cert.Wire

end
-- ==== Proof.Value.Block.lean ====
/- What a device's result is, at each row and column: its rows of `Wire.result` of the two whole arrays. -/
module

public import proofs.«01_k».proof.Proof.Ideal.Launch
public import proofs.«01_k».proof.Proof.Value.Wire
public import Idealize.ShloMosaic.Lib.Pointwise

@[expose] public section

set_option maxRecDepth 16384

noncomputable section

namespace Cert.KernelIdeal.Dist

open Idealize.ShloMosaic Idealize.SL.Sem Cert.KernelIdeal Cert.KernelIdeal.Gen Cert.Wire

variable (m : (ℓ : Loc nD τ sig) → Buf (Elt Ideal) ℓ)

/-! ## The payloads at a row and column -/

/-- A device's operand for another is its rows for that device. -/
theorem xv_at (c e : Dev nD) (r k : Fin 1024) :
    xv m c e (ix3 0 r k) = m ((c.tc : Thread nD τ).loc main_arg0) (ix2 (at4 e r) k) := by
  have h : ∀ G : S1024x1024.Idx → EReal, G ((Shape.reshapeEquiv (squeezes_S1x1024x1024_S1024x1024).numel_eq).symm (ix3 0 r k)) = G (ix2 r k) := by
    intro G
    rw [Shape.reshapeEquiv_symm]
    show shapeCast S1x1024x1024 G squeezes_S1x1024x1024_S1024x1024.numel_eq.symm (ix3 0 r k) = _
    pointwise
  refine (h _).trans ?_
  show m ((c.tc : Thread nD τ).loc main_arg0) _ = _
  refine congrArg _ (funext fun a => Fin.ext ?_)
  match a with
  | 0 => show 1024 * e.val + 1 * r.val = e.val * 1024 + r.val; omega
  | 1 => show 0 + 1 * k.val = k.val; omega

variable (x : Vec Ideal S1x1024x1024 .f32) (w : Vec Ideal S1024x2048 .bf16)

/-- A row of a device's product. -/
def prod (r : Fin 1024) (j : Fin 2048) : EReal := ∑ k : Fin 1024, x (ix3 0 r k) * w (ix2 k j)

theorem pay1_at (r : Fin 1024) (b : Fin 16) (l : Fin 128) : k0_pay1 (F := Ideal) x w (ix3 r b l) = prod x w r (lane b l) := by
  pointwise [k0_pay1]
  rfl

theorem pay2_at (r : Fin 1024) (b : Fin 16) : k0_pay2 (F := Ideal) x w (ix2 r b) = peak (prod x w r) b := by
  unfold peak
  simp only [← pay1_at]
  pointwise [k0_pay2]

theorem scales_at (r : Fin 1024) (b : Fin 16) : scales (F := Ideal) x w (ix3 0 r b) = scale (prod x w r) b := by
  unfold scale scales
  rw [← pay2_at]
  pointwise [k0_pay4, k0_pay3]

theorem codes_at (r : Fin 1024) (j : Fin 2048) :
    codes (F := Ideal) x w (ix3 0 r j)
      = FloatOps.fptosi (F := Ideal) (φ := .f32) 8 (clip (Ideal.div (prod x w r j) (scale (prod x w r) (group j)))) := by
  have e : prod x w r j = k0_pay1 (F := Ideal) x w (ix3 r (group j) ⟨j.val % 128, Nat.mod_lt _ (by decide)⟩) := by
    rw [pay1_at, lane_group]
  rw [e]
  unfold scale codes clip
  rw [← pay2_at]
  generalize k0_pay1 (F := Ideal) x w = P
  generalize k0_pay2 (F := Ideal) x w = Q
  pointwise [k0_pay5, k0_pay3]

/-- Codes times scales: the product as it arrives. -/
theorem wire_at (r : Fin 1024) (j : Fin 2048) :
    FloatOps.sitofp (F := Ideal) .f32 (codes (F := Ideal) x w (ix3 0 r j)) * scales (F := Ideal) x w (ix3 0 r (group j))
      = wire (prod x w r) j := by
  rw [codes_at, scales_at, code_kernel]
  rfl

theorem pay15_at (r : Fin 1024) (j : Fin 2048) : k0_pay15 (F := Ideal) x w (ix2 r j) = prod x w r j := by
  pointwise [k0_pay15]
  rfl

theorem pay16_at (q : Vec Ideal S1x1024x2048 .i8) (s : Vec Ideal S1x1024x16 .bf16) (o : Vec Ideal S1024x2048 .f32) (r : Fin 1024) (j : Fin 2048) :
    k0_pay16 (F := Ideal) q s o (ix2 r j)
      = o (ix2 r j) + FloatOps.sitofp (F := Ideal) .f32 (q (ix3 0 r j)) * s (ix3 0 r (group j)) := by
  pointwise [k0_pay16]

theorem pay17_at (q : Vec Ideal S1x1024x2048 .i8) (s : Vec Ideal S1x1024x16 .bf16) (o : Vec Ideal S1024x2048 .f32) (r : Fin 1024) (j : Fin 2048) :
    k0_pay17 (F := Ideal) q s o (ix2 r j)
      = o (ix2 r j) + FloatOps.sitofp (F := Ideal) .f32 (q (ix3 0 r j)) * s (ix3 0 r (group j)) := by
  pointwise [k0_pay17]

theorem pay18_at (q : Vec Ideal S1x1024x2048 .i8) (s : Vec Ideal S1x1024x16 .bf16) (o : Vec Ideal S1024x2048 .f32) (r : Fin 1024) (j : Fin 2048) :
    k0_pay18 (F := Ideal) q s o (ix2 r j)
      = o (ix2 r j) + FloatOps.sitofp (F := Ideal) .f32 (q (ix3 0 r j)) * s (ix3 0 r (group j)) := by
  pointwise [k0_pay18]

theorem pay22_at (d : EReal) (a b e : Vec Ideal S1x1x1 .f32) (o : Vec Ideal S1024x2048 .f32) (r : Fin 1024) (j : Fin 2048) :
    k0_pay22 (F := Ideal) (k0_pay21 (F := Ideal) d a b) e o (ix2 r j)
      = snap (o (ix2 r j)) (max (max (max d (a (ix3 0 0 0))) (b (ix3 0 0 0))) (e (ix3 0 0 0))) := by
  unfold snap
  pointwise [k0_pay22, k0_pay21]

/-- The devices that the three slots come from. -/
theorem src_zero (c : Dev nD) : src 0 c = c + 3 := by revert c; decide
theorem src_one (c : Dev nD) : src 1 c = c + 2 := by revert c; decide
theorem src_two (c : Dev nD) : src 2 c = c + 1 := by revert c; decide

/-! ## The sum and its maximum, for operands cut from whole arrays -/

section Whole

variable {X : Fin 4096 → Fin 4096 → EReal} {W : Fin 4096 → Fin 2048 → EReal}
  (hX : ∀ (c : Dev nD) (i : Fin 4096) (k : Fin 1024), m ((c.tc : Thread nD τ).loc main_arg0) (ix2 i k) = X i (at4 c k))
  (hW : ∀ (c : Dev nD) (k : Fin 1024) (j : Fin 2048), m ((c.tc : Thread nD τ).loc main_arg1) (ix2 k j) = W (at4 c k) j)

include hX hW

theorem prod_at (c e : Dev nD) (r : Fin 1024) : prod (xv m c e) (wv m c) r = part X W c (at4 e r) := by
  funext j
  refine Finset.sum_congr rfl fun k _ => ?_
  rw [xv_at, wv_eq, hX, hW]

theorem sum_at (c : Dev nD) (r : Fin 1024) (j : Fin 2048) : out3 m c (ix2 r j) = total X W (at4 c r) j := by
  have h : ∀ d : Dev nD, FloatOps.sitofp (F := Ideal) .f32 (qv m d c (ix3 0 r j)) * sv m d c (ix3 0 r (group j))
      = wire (part X W d (at4 c r)) j := fun d => by
    rw [← prod_at m hX hW d c r]; exact wire_at _ _ r j
  unfold out3 out2 out1 own
  rw [pay18_at, pay17_at, pay16_at, pay15_at, prod_at m hX hW, h, h, h, src_zero, src_one, src_two, total_at]

/-- The greatest magnitude of a device's block. -/
theorem amax_at (c : Dev nD) (i : S1x1x1.Idx) :
    amax1 m c i = Finset.univ.fold max low fun p : Fin 1024 × Fin 2048 => mag (total X W (at4 c p.1) p.2) := by
  simp only [← sum_at m hX hW]
  unfold amax1 amax
  generalize out3 m c = O
  pointwise [k0_pay20, k0_pay19]

theorem most_at (c : Dev nD) : k0_pay19 (F := Ideal) (out3 m c)
    = Finset.univ.fold max low fun p : Fin 1024 × Fin 2048 => mag (total X W (at4 c p.1) p.2) := by
  simp only [← sum_at m hX hW]
  generalize out3 m c = O
  pointwise [k0_pay19]

/-- A device's result: its rows of the whole. -/
theorem result_at (c : Dev nD) (r : Fin 1024) (j : Fin 2048) : outF m c (ix2 r j) = result X W (at4 c r) j := by
  unfold outF result
  rw [pay22_at, src_zero, src_one, src_two, amax_at m hX hW, amax_at m hX hW, amax_at m hX hW, most_at m hX hW,
    sum_at m hX hW, most_blocks X W c]

end Whole

end Cert.KernelIdeal.Dist

end
-- ==== Proof.Value.Reference.lean ====
/- What the reference computes, at each row and column: `Wire.result` of its two arguments. -/
module

public import proofs.«01_k».proof.Proof.Gen.ReferenceIdeal.Run
public import proofs.«01_k».proof.Proof.Value.Wire
public import Idealize.ShloMosaic.Lib.Pointwise
public import Idealize.ShloMosaic.Lib.WordCmp

@[expose] public section

set_option maxRecDepth 16384

noncomputable section

namespace Cert.ReferenceIdeal.Value

open Idealize.ShloMosaic Idealize.SL.Sem Cert.ReferenceIdeal Cert.ReferenceIdeal.Gen Cert.Wire

variable (V0 : Valuation τ sig (Elt Ideal))

/-- The two arguments by row and column. -/
abbrev xs : Fin 4096 → Fin 4096 → EReal := fun i k => V0 (Proc.devRef .tc main_arg0) (ix2 i k)
abbrev ws : Fin 4096 → Fin 2048 → EReal := fun k j => V0 (Proc.devRef .tc main_arg1) (ix2 k j)

/-! ## The four partial products -/

theorem at4_zero (k : Fin 1024) : at4 0 k = ⟨k.val, by omega⟩ := Fin.ext (by show 0 * 1024 + k.val = k.val; omega)

theorem part0 (i : Fin 4096) (j : Fin 2048) : res_main_v5 V0 (ix2 i j) = part (xs V0) (ws V0) 0 i j := by
  simp only [part, at4_zero]
  pointwise [res_main_v5]

theorem part1 (i : Fin 4096) (j : Fin 2048) : res_main_v37 V0 (ix2 i j) = part (xs V0) (ws V0) 1 i j := by
  pointwise [res_main_v37]; rfl

theorem part2 (i : Fin 4096) (j : Fin 2048) : res_main_v69 V0 (ix2 i j) = part (xs V0) (ws V0) 2 i j := by
  pointwise [res_main_v69]; rfl

theorem part3 (i : Fin 4096) (j : Fin 2048) : res_main_v101 V0 (ix2 i j) = part (xs V0) (ws V0) 3 i j := by
  pointwise [res_main_v101]; rfl

/-! ## A group's scale, and a rounded product -/

/-- The host's maximum over a group is the greatest magnitude of a group of a row. -/
theorem peak_host (p : FVec Ideal S4096x2048 .f32) (i : Fin 4096) (b : Fin 16) :
    Host.reduce FloatOps.maximumf (Host.absf (shapeCast S4096x16x128 p shapeCasts_S4096x2048_S4096x16x128))
        (constant S_ .f32 0xFF800000#32) reducesTo_S4096x16x128_S4096x16_d2 h_S_ (ix2 i b)
      = peak (fun j => p (ix2 i j)) b := by
  rw [Host.reduce_eq_fold]
  refine (Shape.ReducesTo.fold_fiber_r3_a2 (n0 := 4096) (n1 := 16) (n2 := 128) reducesTo_S4096x16x128_S4096x16_d2 (ix2 i b) _ _ _).trans ?_
  pointwise
  rfl

theorem scale_host (p : FVec Ideal S4096x2048 .f32) (i : Fin 4096) (b : Fin 16) :
    (extf .f32 (truncf .bf16 (maximumf (Host.divf (broadcastInDim S4096x16x1 ![0, 1] bcast_S4096x16_S4096x16x1_0_1
      (Host.reduce FloatOps.maximumf (Host.absf (shapeCast S4096x16x128 p shapeCasts_S4096x2048_S4096x16x128))
        (constant S_ .f32 0xFF800000#32) reducesTo_S4096x16x128_S4096x16_d2 h_S_))
      (broadcastInDim S4096x16x1 ![] bcast_S_S4096x16x1 (constant S_ .f32 0x42FE0000#32)))
      (broadcastInDim S4096x16x1 ![] bcast_S_S4096x16x1 (constant S_ .f32 0x1E3CE508#32))) bitsLt_bf16_f32) bitsLt_bf16_f32 :
        FVec Ideal S4096x16x1 .f32) (ix3 i b 0)
      = scale (fun j => p (ix2 i j)) b := by
  unfold scale
  rw [← peak_host p i b]
  generalize Host.reduce _ _ _ _ _ = R
  pointwise

/-- The rounded product at a row and column. -/
theorem wire_host (p : FVec Ideal S4096x2048 .f32) (s : FVec Ideal S4096x16x1 .f32)
    (hs : ∀ i b, s (ix3 i b 0) = scale (fun j => p (ix2 i j)) b) (i : Fin 4096) (j : Fin 2048) :
    (shapeCast S4096x2048 (mulf (sitofp .f32 (extsi 32 (trunci 8 (fptosi 32 (minimumf
        (broadcastInDim S4096x16x128 ![] bcast_S_S4096x16x128 (id (constant S_ .f32 0x42FE0000#32)))
        (maximumf (broadcastInDim S4096x16x128 ![] bcast_S_S4096x16x128 (id (constant S_ .f32 0xC2FE0000#32)))
          (Host.roundeven (Host.divf (shapeCast S4096x16x128 p shapeCasts_S4096x2048_S4096x16x128)
            (broadcastInDim S4096x16x128 ![0, 1, 2] bcast_S4096x16x1_S4096x16x128_0_1_2 s)))))) natLt_8_32) natLt_8_32))
        (broadcastInDim S4096x16x128 ![0, 1, 2] bcast_S4096x16x1_S4096x16x128_0_1_2 s)) shapeCasts_S4096x16x128_S4096x2048 : FVec Ideal S4096x2048 .f32) (ix2 i j)
      = wire (fun j => p (ix2 i j)) j := by
  simp only [id]
  pointwise
  rw [hs]
  exact congrArg (· * _) (code_host _)

/-! ## The sum -/

/-- Whether a row lies between two others, as words. -/
theorem row_mask (i : Fin 4096) (lo hi : ℕ) (hlo : lo < 2 ^ 31) (hhi : hi < 2 ^ 31) (a b : EReal) :
    Scalar.select (IntOp.andi (IntOp.cmpi .sge (BitVec.ofNat 32 i.val) (BitVec.ofNat 32 lo))
        (IntOp.cmpi .slt (BitVec.ofNat 32 i.val) (BitVec.ofNat 32 hi))) a b
      = if lo ≤ i.val ∧ i.val < hi then a else b := by
  rw [WordCmp.cmpi_sge_ofNat (by omega) hlo, WordCmp.cmpi_slt_ofNat (by omega) hhi, WordCmp.andi_ofBool]
  simp only [Scalar.select, WordCmp.ofBool_eq_one_iff', Bool.and_eq_true, decide_eq_true_eq]

/-- One summand: the product itself on the rows from `lo` to `hi`, the rounded one elsewhere. -/
theorem term_host (d : Fin 4) (p q : FVec Ideal S4096x2048 .f32)
    (hp : ∀ i j, p (ix2 i j) = part (xs V0) (ws V0) d i j)
    (hq : ∀ i j, q (ix2 i j) = wire (fun j => p (ix2 i j)) j) (i : Fin 4096) (j : Fin 2048) :
    (select (andi (cmpi .sge (res_main_v0 (F := Ideal) V0) (broadcastInDim S4096x2048 ![] bcast_S_S4096x2048
        (constantI S_ 32 (BitVec.ofNat 32 (d.val * 1024)))))
      (cmpi .slt (res_main_v0 (F := Ideal) V0) (broadcastInDim S4096x2048 ![] bcast_S_S4096x2048
        (constantI S_ 32 (BitVec.ofNat 32 ((d.val + 1) * 1024)))))) p q : FVec Ideal S4096x2048 .f32) (ix2 i j)
      = term (xs V0) (ws V0) d i j := by
  have hw : q (ix2 i j) = wire (part (xs V0) (ws V0) d i) j :=
    (hq i j).trans (congrArg (wire · j) (funext fun j => hp i j))
  unfold term
  rw [← hp i j, ← hw]
  exact row_mask i (d.val * 1024) ((d.val + 1) * 1024) (by omega) (by omega) _ _

theorem total_host (i : Fin 4096) (j : Fin 2048) :
    res_main_v129 V0 (ix2 i j) = total (xs V0) (ws V0) i j := by
  unfold total
  rw [Fin.sum_univ_four,
    ← term_host V0 0 (res_main_v5 V0) _ (part0 V0) (wire_host _ (res_main_v20 V0) (scale_host _)) i j,
    ← term_host V0 1 (res_main_v37 V0) _ (part1 V0) (wire_host _ (res_main_v52 V0) (scale_host _)) i j,
    ← term_host V0 2 (res_main_v69 V0) _ (part2 V0) (wire_host _ (res_main_v84 V0) (scale_host _)) i j,
    ← term_host V0 3 (res_main_v101 V0) _ (part3 V0) (wire_host _ (res_main_v116 V0) (scale_host _)) i j]
  refine congrArg (· + _) (congrArg (· + _) (congrArg (· + _) ?_))
  refine (congrArg (· + _) (?_ : _ = (0 : EReal))).trans (zero_add _)
  exact Ideal.ofBits_zero .f32

/-- The one scale of the whole array. -/
theorem scale_whole : res_main_v132 V0 ix0 = Ideal.div (most (xs V0) (ws V0)) c448 := by
  refine congrArg (Ideal.div · c448) ?_
  show Host.reduce _ _ _ _ _ _ = _
  rw [Host.reduce_eq_fold]
  refine (Shape.ReducesTo.fold_fiber_r2_a01 (n0 := 4096) (n1 := 2048) reducesTo_S4096x2048_S_d0_1 ix0 _ _ _).trans ?_
  unfold most
  refine congrArg (Finset.fold max low · Finset.univ) (funext fun p => ?_)
  exact congrArg mag (total_host V0 p.1 p.2)

/-- The reference's result. -/
theorem result_host (i : Fin 4096) (j : Fin 2048) :
    (mulf (minimumf (broadcastInDim S4096x2048 ![] bcast_S_S4096x2048 (id (constant S_ .f32 0x43E00000#32)))
      (maximumf (broadcastInDim S4096x2048 ![] bcast_S_S4096x2048 (id (constant S_ .f32 0xC3E00000#32)))
        (Host.divf (res_main_v129 V0) (broadcastInDim S4096x2048 ![] bcast_S_S4096x2048 (res_main_v132 V0)))))
      (broadcastInDim S4096x2048 ![] bcast_S_S4096x2048 (res_main_v132 V0)) : FVec Ideal S4096x2048 .f32) (ix2 i j)
      = result (xs V0) (ws V0) i j := by
  unfold result snap
  rw [← total_host V0 i j, ← scale_whole V0]
  simp only [id]
  generalize res_main_v129 V0 = A
  generalize res_main_v132 V0 = B
  pointwise

end Cert.ReferenceIdeal.Value

end
-- ==== Proof.Claims.Algebraic.lean ====
/- The equation: over the extended reals each device's result is its block of the reference's. -/
module

public import proofs.«01_k».proof.Defs
public import proofs.«01_k».proof.Proof.Value.Block
public import proofs.«01_k».proof.Proof.Value.Reference
public import Idealize.ShloMosaic.Lib.Layout

@[expose] public section

set_option maxRecDepth 16384

noncomputable section

namespace Cert.Claims

open Idealize.ShloMosaic Idealize.SL.Sem Cert.Wire

/-- A block of columns of the first factor, at a row and column. -/
theorem block_cols {α : Type} (v : (⟨2, ![4096, 4096]⟩ : Shape).Idx → α) (c : Fin 4) (i : Fin 4096) (k : Fin 1024) :
    Layout.block ⟨2, ![4096, 1024]⟩ ⟨2, ![4096, 4096]⟩ 1 4 c v (by decide) (ix2 i k) = v (ix2 i (at4 c k)) := by
  refine congrArg v (funext fun a => Fin.ext ?_)
  match a with
  | 0 => rfl
  | 1 => rfl

/-- A block of rows of the second factor, and of the result. -/
theorem block_rows {α : Type} (v : (⟨2, ![4096, 2048]⟩ : Shape).Idx → α) (c : Fin 4) (r : Fin 1024) (j : Fin 2048) :
    Layout.block ⟨2, ![1024, 2048]⟩ ⟨2, ![4096, 2048]⟩ 0 4 c v (by decide) (ix2 r j) = v (ix2 (at4 c r) j) := by
  refine congrArg v (funext fun a => Fin.ext ?_)
  match a with
  | 0 => rfl
  | 1 => rfl

theorem algebraic : Cert.algebraic_KernelIdeal_ReferenceIdeal := by
  intro m g m' g' _ hm
  refine ⟨_, (θ_run _ _ _).mono (fun r h c => ⟨((h.1 c).1).trans ?_, (h.1 c).2⟩) (Cert.KernelIdeal.Dist.run_value m g),
    (θ_run _ _ _).mono (fun r h => h 0) (Cert.ReferenceIdeal.Value.run m' g')⟩
  refine funext fun i => ?_
  obtain ⟨r, j, rfl⟩ : ∃ (r : Fin 1024) (j : Fin 2048), i = ix2 r j := ⟨i 0, i 1, eq_ix2 i⟩
  rw [block_rows]
  refine (Cert.KernelIdeal.Dist.result_at m (fun c i k => ?_) (fun c k j => ?_) c r j).trans
    (Cert.ReferenceIdeal.Value.result_host (StableHlo.launchContents m' 0) (at4 c r) j).symm
  · rw [(hm c).1, block_cols]
  · rw [(hm c).2, block_rows]

end Cert.Claims

end
-- ==== Proof.lean ====
module

public import proofs.«01_k».proof.Defs
public import proofs.«01_k».proof.Proof.Claims.Frames
public import proofs.«01_k».proof.Proof.Claims.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Claims.frame_kernel, Cert.Claims.frame_kernelIdeal, Cert.Claims.frame_referenceIdeal, trivial,
  Cert.Claims.algebraic⟩

end Cert.Proof

end
